-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_shortlist_is_exact [hPre_shortlist_is_exact : Cert.Pre_shortlist_is_exact.Facts] (m : (ℓ : Loc Cert.KernelIdeal.nD Cert.KernelIdeal.τ Cert.KernelIdeal.sig) → Buf (Elt Ideal) ℓ) : Prop :=
  ∀ c : Dev Cert.KernelIdeal.nD,
    (Cert.Pre_shortlist_is_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_shortlist_is_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_shortlist_is_exact.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_shortlist_is_exact [hPre_shortlist_is_exact : Cert.Pre_shortlist_is_exact.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_shortlist_is_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_shortlist_is_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_shortlist_is_exact.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_shortlist_is_exact [hKernelIdeal : Cert.KernelIdeal.Facts] [hPre_shortlist_is_exact : Cert.Pre_shortlist_is_exact.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_shortlist_is_exact m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_shortlist_is_exact [hReferenceIdeal : Cert.ReferenceIdeal.Facts] [hPre_shortlist_is_exact : Cert.Pre_shortlist_is_exact.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_shortlist_is_exact m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_shortlist_is_exact [hKernelIdeal : Cert.KernelIdeal.Facts] [hReferenceIdeal : Cert.ReferenceIdeal.Facts] [hPre_shortlist_is_exact : Cert.Pre_shortlist_is_exact.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_shortlist_is_exact m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_shortlist_is_exact : Cert.Pre_shortlist_is_exact.Facts),
    quiescent_Kernel (hKernel := hKernel)
    ∧ quiescent_KernelIdeal (hKernelIdeal := hKernelIdeal)
    ∧ quiescent_KernelIdeal_pre_shortlist_is_exact (hKernelIdeal := hKernelIdeal) (hPre_shortlist_is_exact := hPre_shortlist_is_exact)
    ∧ quiescent_ReferenceIdeal (hReferenceIdeal := hReferenceIdeal)
    ∧ quiescent_ReferenceIdeal_pre_shortlist_is_exact (hReferenceIdeal := hReferenceIdeal) (hPre_shortlist_is_exact := hPre_shortlist_is_exact)
    ∧ preserves_Kernel_KernelIdeal
    ∧ algebraic_KernelIdeal_ReferenceIdeal_pre_shortlist_is_exact (hKernelIdeal := hKernelIdeal) (hReferenceIdeal := hReferenceIdeal) (hPre_shortlist_is_exact := hPre_shortlist_is_exact)
-- ==== Pre_shortlist_is_exact.lean ====
abbrev S8192x64 : Shape := ⟨2, ![8192, 64]⟩
abbrev S64x64 : Shape := ⟨2, ![64, 64]⟩
abbrev S_ : Shape := ⟨0, ![]⟩
abbrev S8192 : Shape := ⟨1, ![8192]⟩
abbrev S8192x1 : Shape := ⟨2, ![8192, 1]⟩
abbrev S64x8192 : Shape := ⟨2, ![64, 8192]⟩
abbrev S8192x8192 : Shape := ⟨2, ![8192, 8192]⟩
abbrev S8192x11 : Shape := ⟨2, ![8192, 11]⟩
abbrev S8192x9 : Shape := ⟨2, ![8192, 9]⟩
abbrev S8192x10 : Shape := ⟨2, ![8192, 10]⟩
abbrev S8192x10x1 : Shape := ⟨3, ![8192, 10, 1]⟩
abbrev S8192x1x10 : Shape := ⟨3, ![8192, 1, 10]⟩
abbrev S8192x10x10 : Shape := ⟨3, ![8192, 10, 10]⟩

class Facts : Prop where
  transposes_S64x64_S64x64_1_0 : S64x64.Transposes [1, 0] S64x64
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  transposes_S8192x64_S64x8192_1_0 : S8192x64.Transposes [1, 0] S64x8192
  sliceFits_S8192x8192_S8192x11 : S8192x8192.Slices (fun _ => 0) S8192x11
  slices_S8192x11_S8192x1_0_0 : S8192x11.Slices ![0, 0] S8192x1
  slices_S8192x11_S8192x9_0_0 : S8192x11.Slices ![0, 0] S8192x9
  slices_S8192x11_S8192x9_0_1 : S8192x11.Slices ![0, 1] S8192x9
  slices_S8192x11_S8192x10_0_0 : S8192x11.Slices ![0, 0] S8192x10
  bcast_S_S8192x10 : S_.BroadcastsInDim S8192x10 (![] : Fin 0 → Fin S8192x10.rank)
  bcast_S8192x10_S8192x10x1_0_1 : S8192x10.BroadcastsInDim S8192x10x1 (![0, 1] : Fin 2 → Fin S8192x10x1.rank)
  bcast_S8192x10_S8192x1x10_0_2 : S8192x10.BroadcastsInDim S8192x1x10 (![0, 2] : Fin 2 → Fin S8192x1x10.rank)
  bcast_S8192x10x1_S8192x10x10_0_1_2 : S8192x10x1.BroadcastsInDim S8192x10x10 (![0, 1, 2] : Fin 3 → Fin S8192x10x10.rank)
  bcast_S8192x1x10_S8192x10x10_0_1_2 : S8192x1x10.BroadcastsInDim S8192x10x10 (![0, 1, 2] : Fin 3 → Fin S8192x10x10.rank)
  natLt_1_32 : 1 < 32
  reducesTo_S8192x10x10_S8192x10_d2 : S8192x10x10.ReducesTo [2] S8192x10
  dot_S8192x64_S64x64_S8192x64_1_0_0_1_n_n_wf : DotDims.WF S8192x64 S64x64 S8192x64 [1] [0] [0] [1] [] []
  dot_S8192x64_S64x8192_S8192x8192_1_0_0_1_n_n_wf : DotDims.WF S8192x64 S64x8192 S8192x8192 [1] [0] [0] [1] [] []

variable [Facts]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def fn_norm {F : FTy → Type} [FloatOps F] (arg0 : FVec F S8192x64 .f32) : FVec F S8192x1 .f32 :=
  let v0 : FVec F S8192x64 .f32 := mulf arg0 arg0
  let cst : FVec F S_ .f32 := constant S_ .f32 0x00000000#32
  let v1 : FVec F S8192 .f32 := (fun x v => Host.reduceAdd x v reducesTo_S8192x64_S8192_d1 h_S_) v0 cst
  let v2 : FVec F S8192x1 .f32 := broadcastInDim S8192x1 ![0] bcast_S8192_S8192x1_0 v1
  let v3 : FVec F S8192x1 .f32 := Host.sqrt v2
  v3

def fn_part1 {F : FTy → Type} [FloatOps F] (main_v11 : IVec S8192x1 1) (main_v14 : IVec S8192x9 1) (main_v18 : IVec S8192x10x1 32) (main_v19 : IVec S8192x1x10 32) : IVec S8192x1 1 × IVec S8192x9 1 × IVec S8192x10 1 :=
  let main_v20 : IVec S8192x10x10 32 := broadcastInDim S8192x10x10 ![0, 1, 2] bcast_S8192x10x1_S8192x10x10_0_1_2 main_v18
  let main_v21 : IVec S8192x10x10 32 := broadcastInDim S8192x10x10 ![0, 1, 2] bcast_S8192x1x10_S8192x10x10_0_1_2 main_v19
  let main_v22 : IVec S8192x10x10 1 := cmpi .eq main_v20 main_v21
  let main_v23 : IVec S8192x10x10 32 := (extui 32 · natLt_1_32) main_v22
  let main_c_0 : IVec S_ 32 := constantI S_ 32 0#32
  let main_v24 : IVec S8192x10 32 := (fun x v => Host.reduce IntOp.addi x v reducesTo_S8192x10x10_S8192x10_d2 h_S_) main_v23 main_c_0
  let main_c_1 : IVec S_ 32 := constantI S_ 32 3#32
  let main_v25 : IVec S8192x10 32 := broadcastInDim S8192x10 ![] bcast_S_S8192x10 main_c_1
  let main_v26 : IVec S8192x10 1 := cmpi .sle main_v24 main_v25
  (main_v11, main_v14, main_v26)

def fn {F : FTy → Type} [FloatOps F] (main_arg0 : FVec F S8192x64 .f32) (main_arg1 : FVec F S64x64 .f32) : IVec S8192x1 1 × IVec S8192x9 1 × IVec S8192x10 1 :=
  let main_v0 : FVec F S64x64 .f32 := (transpose S64x64 [1, 0] · transposes_S64x64_S64x64_1_0) main_arg1
  let main_v1 : FVec F S8192x64 .f32 := (fun l r => Host.dotGeneral dot_S8192x64_S64x64_S8192x64_1_0_0_1_n_n none l r) main_arg0 main_v0
  let main_v2 : FVec F S8192x1 .f32 := fn_norm (F := F) main_v1
  let main_cst : FVec F S_ .f32 := constant S_ .f32 0x2B8CBCCC#32
  let main_v3 : FVec F S8192x1 .f32 := broadcastInDim S8192x1 ![] bcast_S_S8192x1 main_cst
  let main_v4 : FVec F S8192x1 .f32 := maximumf main_v2 main_v3
  let main_v5 : FVec F S8192x64 .f32 := broadcastInDim S8192x64 ![0, 1] bcast_S8192x1_S8192x64_0_1 main_v4
  let main_v6 : FVec F S8192x64 .f32 := Host.divf main_v1 main_v5
  let main_v7 : FVec F S64x8192 .f32 := (transpose S64x8192 [1, 0] · transposes_S8192x64_S64x8192_1_0) main_v6
  let main_v8 : FVec F S8192x8192 .f32 := (fun l r => Host.dotGeneral dot_S8192x64_S64x8192_S8192x8192_1_0_0_1_n_n none l r) main_v6 main_v7
  let main_values : FVec F S8192x11 .f32 := (fun x => (Host.topK S8192x11 1 (FloatOps.cmpfTotal .gt) x sliceFits_S8192x8192_S8192x11).1) main_v8
  let main_indices : IVec S8192x11 32 := (fun x => (Host.topK S8192x11 1 (FloatOps.cmpfTotal .gt) x sliceFits_S8192x8192_S8192x11).2) main_v8
  let main_v9 : IVec S8192x1 32 := (extractStridedSlice S8192x1 ![0, 0] · slices_S8192x11_S8192x1_0_0) main_indices
  let main_v10 : IVec S8192x1 32 := iotaInDim S8192x1 32 0
  let main_v11 : IVec S8192x1 1 := cmpi .eq main_v9 main_v10
  let main_v12 : FVec F S8192x9 .f32 := (extractStridedSlice S8192x9 ![0, 0] · slices_S8192x11_S8192x9_0_0) main_values
  let main_v13 : FVec F S8192x9 .f32 := (extractStridedSlice S8192x9 ![0, 1] · slices_S8192x11_S8192x9_0_1) main_values
  let main_v14 : IVec S8192x9 1 := cmpf .ogt main_v12 main_v13
  let main_v15 : IVec S8192x10 32 := (extractStridedSlice S8192x10 ![0, 0] · slices_S8192x11_S8192x10_0_0) main_indices
  let main_c : IVec S_ 32 := constantI S_ 32 256#32
  let main_v16 : IVec S8192x10 32 := broadcastInDim S8192x10 ![] bcast_S_S8192x10 main_c
  let main_v17 : IVec S8192x10 32 := Host.remsi main_v15 main_v16
  let main_v18 : IVec S8192x10x1 32 := broadcastInDim S8192x10x1 ![0, 1] bcast_S8192x10_S8192x10x1_0_1 main_v17
  let main_v19 : IVec S8192x1x10 32 := broadcastInDim S8192x1x10 ![0, 2] bcast_S8192x10_S8192x1x10_0_2 main_v17
  fn_part1 (F := F) main_v11 main_v14 main_v18 main_v19
-- ==== Kernel.lean ====
abbrev S8192x64 : Shape := ⟨2, ![8192, 64]⟩
abbrev S64x64 : Shape := ⟨2, ![64, 64]⟩
abbrev S1x8192 : Shape := ⟨2, ![1, 8192]⟩
abbrev S8192x8192 : Shape := ⟨2, ![8192, 8192]⟩
abbrev S8192 : Shape := ⟨1, ![8192]⟩
abbrev S8192x1 : Shape := ⟨2, ![8192, 1]⟩
abbrev S256x64 : Shape := ⟨2, ![256, 64]⟩
abbrev S1x256 : Shape := ⟨2, ![1, 256]⟩
abbrev S256x8192 : Shape := ⟨2, ![256, 8192]⟩
abbrev S256x32x256 : Shape := ⟨3, ![256, 32, 256]⟩
abbrev S256x256 : Shape := ⟨2, ![256, 256]⟩
abbrev S256x1x256 : Shape := ⟨3, ![256, 1, 256]⟩
abbrev S256x768 : Shape := ⟨2, ![256, 768]⟩
abbrev S256 : Shape := ⟨1, ![256]⟩
abbrev S256x1 : Shape := ⟨2, ![256, 1]⟩

abbrev nBuf : Space → Nat
  | .hbm => 5
  | .vmem => 14
  | .smem => 0
  | _ => 0

abbrev bufTy : (tb : Table) → Fin (tcTables nBuf tb) → BufTy
  | .hbm, ⟨0, _⟩ => ⟨S8192x64, .f32⟩
  | .hbm, ⟨1, _⟩ => ⟨S64x64, .f32⟩
  | .hbm, ⟨2, _⟩ => ⟨S8192x64, .f32⟩
  | .hbm, ⟨3, _⟩ => ⟨S1x8192, .f32⟩
  | .hbm, ⟨4, _⟩ => ⟨S8192x8192, .f32⟩
  | .local _ .vmem, ⟨0, _⟩ => ⟨S8192x64, .f32⟩
  | .local _ .vmem, ⟨1, _⟩ => ⟨S64x64, .f32⟩
  | .local _ .vmem, ⟨2, _⟩ => ⟨S8192x64, .f32⟩
  | .local _ .vmem, ⟨3, _⟩ => ⟨S256x64, .f32⟩
  | .local _ .vmem, ⟨4, _⟩ => ⟨S256x64, .f32⟩
  | .local _ .vmem, ⟨5, _⟩ => ⟨S8192x64, .f32⟩
  | .local _ .vmem, ⟨6, _⟩ => ⟨S1x256, .f32⟩
  | .local _ .vmem, ⟨7, _⟩ => ⟨S1x256, .f32⟩
  | .local _ .vmem, ⟨8, _⟩ => ⟨S256x64, .f32⟩
  | .local _ .vmem, ⟨9, _⟩ => ⟨S256x64, .f32⟩
  | .local _ .vmem, ⟨10, _⟩ => ⟨S8192x64, .f32⟩
  | .local _ .vmem, ⟨11, _⟩ => ⟨S1x8192, .f32⟩
  | .local _ .vmem, ⟨12, _⟩ => ⟨S256x8192, .f32⟩
  | .local _ .vmem, ⟨13, _⟩ => ⟨S256x8192, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg3_1 : Ref sig .tc := ⟨.vmem, 13, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem3_1 : DmaSem sig := 13

abbrev nD : Nat := 1
abbrev τ : Topo := Topo.v7x

variable {F : FTy → Type} [FloatOps F]

abbrev grid0 : Pipeline.Grid := .none

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![32], ![false]⟩

@[reducible] def k1_t1_loop : Scf.Loop 32 :=
  let c0_i32 : BitVec 32 := 0#32
  let c9_i32 : BitVec 32 := 9#32
  let v25 : BitVec 32 := Scalar.addi c0_i32 c9_i32
  let c1_i32 : BitVec 32 := 1#32
  ⟨c0_i32, v25, c1_i32⟩
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def k2_off1 (i : grid2.Coords) : Fin 2 → Nat :=
  let c0_5 : Index := 0#32
  let arg0 : BitVec 32 := BitVec.ofNat 32 (i 0).val
  let c256_i32 : BitVec 32 := 256#32
  let v9 : BitVec 32 := Scalar.muli arg0 c256_i32
  let v10 : Index := Scalar.indexCast v9
  ![0, v10.toNat]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x8192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x8192 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S8192x64 : Shape := ⟨2, ![8192, 64]⟩
abbrev S64x64 : Shape := ⟨2, ![64, 64]⟩
abbrev S_ : Shape := ⟨0, ![]⟩
abbrev S8192 : Shape := ⟨1, ![8192]⟩
abbrev S8192x1 : Shape := ⟨2, ![8192, 1]⟩
abbrev S64x8192 : Shape := ⟨2, ![64, 8192]⟩
abbrev S8192x8192 : Shape := ⟨2, ![8192, 8192]⟩
abbrev S8192x11 : Shape := ⟨2, ![8192, 11]⟩
abbrev S8192x10 : Shape := ⟨2, ![8192, 10]⟩
abbrev S8192x9 : Shape := ⟨2, ![8192, 9]⟩
abbrev S8192x9x1 : Shape := ⟨3, ![8192, 9, 1]⟩
abbrev S1 : Shape := ⟨1, ![1]⟩
abbrev S1x1x1 : Shape := ⟨3, ![1, 1, 1]⟩
abbrev S8192x9x64 : Shape := ⟨3, ![8192, 9, 64]⟩
abbrev S1x8192 : Shape := ⟨2, ![1, 8192]⟩

abbrev nBuf : Space → Nat
  | .hbm => 63
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S64x64, .f32⟩
  | .hbm, ⟨2, _⟩ => ⟨S64x64, .f32⟩
  | .hbm, ⟨3, _⟩ => ⟨S8192x64, .f32⟩
  | .hbm, ⟨4, _⟩ => ⟨S8192x64, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x64, .f32⟩
  | .hbm, ⟨13, _⟩ => ⟨S8192x64, .f32⟩
  | .hbm, ⟨14, _⟩ => ⟨S64x8192, .f32⟩
  | .hbm, ⟨15, _⟩ => ⟨S8192x8192, .f32⟩
  | .hbm, ⟨16, _⟩ => ⟨S8192x11, .f32⟩
  | .hbm, ⟨17, _⟩ => ⟨S8192x11, .i32⟩
  | .hbm, ⟨18, _⟩ => ⟨S8192x10, .i32⟩
  | .hbm, ⟨19, _⟩ => ⟨S8192x9, .i32⟩
  | .hbm, ⟨20, _⟩ => ⟨S_, .i32⟩
  | .hbm, ⟨21, _⟩ => ⟨S8192x9, .i32⟩
  | .hbm, ⟨22, _⟩ => ⟨S8192x9, .i1⟩
  | .hbm, ⟨23, _⟩ => ⟨S_, .i32⟩
  | .hbm, ⟨24, _⟩ => ⟨S8192x9, .i32⟩
  | .hbm, ⟨25, _⟩ => ⟨S8192x9, .i32⟩
  | .hbm, ⟨26, _⟩ => ⟨S8192x9, .i32⟩
  | .hbm, ⟨27, _⟩ => ⟨S8192x9x1, .i32⟩
  | .hbm, ⟨28, _⟩ => ⟨S1, .i32⟩
  | .hbm, ⟨29, _⟩ => ⟨S_, .i32⟩
  | .hbm, ⟨30, _⟩ => ⟨S8192x9x1, .i32⟩
  | .hbm, ⟨31, _⟩ => ⟨S8192x9x1, .i1⟩
  | .hbm, ⟨32, _⟩ => ⟨S1x1x1, .i32⟩
  | .hbm, ⟨33, _⟩ => ⟨S8192x9x1, .i32⟩
  | .hbm, ⟨34, _⟩ => ⟨S8192x9x1, .i1⟩
  | .hbm, ⟨35, _⟩ => ⟨S8192x9x1, .i1⟩
  | .hbm, ⟨36, _⟩ => ⟨S_, .i1⟩
  | .hbm, ⟨37, _⟩ => ⟨S8192x9, .i1⟩
  | .hbm, ⟨38, _⟩ => ⟨S8192x9x64, .f32⟩
  | .hbm, ⟨39, _⟩ => ⟨S8192x9x64, .i1⟩
  | .hbm, ⟨40, _⟩ => ⟨S_, .f32⟩
  | .hbm, ⟨41, _⟩ => ⟨S8192x9x64, .f32⟩
  | .hbm, ⟨42, _⟩ => ⟨S8192x9x64, .f32⟩
  | .hbm, ⟨43, _⟩ => ⟨S_, .f32⟩
  | .hbm, ⟨44, _⟩ => ⟨S8192x64, .f32⟩
  | .hbm, ⟨45, _⟩ => ⟨S8192x64, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192x1, .f32⟩
  | .hbm, ⟨52, _⟩ => ⟨S1x8192, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S8192x8192, .f32⟩
  | .hbm, ⟨58, _⟩ => ⟨S_, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_values : Ref sig .tc := ⟨.hbm, 16, rfl⟩
abbrev main_indices : Ref sig .tc := ⟨.hbm, 17, rfl⟩
abbrev main_v9 : Ref sig .tc := ⟨.hbm, 18, rfl⟩
abbrev main_v10 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_v14 : Ref sig .tc := ⟨.hbm, 39, rfl⟩
abbrev main_call1_cst : Ref sig .tc := ⟨.hbm, 40, rfl⟩
abbrev main_call1_v15 : Ref sig .tc := ⟨.hbm, 41, rfl⟩
abbrev main_v11 : Ref sig .tc := ⟨.hbm, 42, rfl⟩
abbrev main_cst_0 : Ref sig .tc := ⟨.hbm, 43, rfl⟩
abbrev main_v12 : Ref sig .tc := ⟨.hbm, 44, rfl⟩
abbrev main_v13 : Ref sig .tc := ⟨.hbm, 45, rfl⟩
abbrev main_cst_1 : Ref sig .tc := ⟨.hbm, 46, rfl⟩
abbrev main_v14 : Ref sig .tc := ⟨.hbm, 47, rfl⟩
abbrev main_cst_2 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_3 : Ref sig .tc := ⟨.hbm, 56, rfl⟩
abbrev main_v22 : Ref sig .tc := ⟨.hbm, 57, rfl⟩
abbrev main_cst_4 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩

abbrev nD : Nat := 1
abbrev τ : Topo := Topo.v7x

variable {F : FTy → Type} [FloatOps F]
-- ==== Proof.Run.lean ====
/- The launch of the idealized kernel: its three regions run one after the other, and the result array ends
   at the contents the boundary after the last region names (`Gen.W3`). -/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel runs to its end; the result array then holds what the third region's write-backs left, and both
    argument arrays are unchanged. -/
theorem run_boundary : θ_run defs (onTc (τ := τ) (main (F := F))) ⟨m, fun _ => 0, ρ⟩ (fun r => ∀ c : Dev nD,
      r.2.mem ((c.tc : Thread nD τ).loc main_v0) = W3 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨h c _ (mem_uc main_v0 (by decide)),
       (h c _ (mem_uc main_arg0 (by decide))).trans (W3_main_arg0 m ρ c),
       (h c _ (mem_uc main_arg1 (by decide))).trans (W3_main_arg1 m ρ c)⟩)

end Cert.KernelIdeal.Value

end
-- ==== Proof.Blocks.lean ====
/- What one grid point of each region stores, as the generated payloads over the point's input blocks. -/
module

public import proofs.«01_k».proof.Proof.Gen.KernelIdeal.Frame
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable {F : FTy → Type} [FloatOps F]

/-- One trip of the extraction loop: the next lower candidate of every row, and the sum with it added. -/
def trip (x0 : Vec F S256x64 .f32) (x1 : Vec F S8192x64 .f32) (s : FVec F S256x1 .f32 × FVec F S256 .f32) :
    FVec F S256x1 .f32 × FVec F S256 .f32 :=
  (k1_pay5 x0 x1 s.1, k1_pay6 x0 x1 s.1 s.2)

/-- The second region's block: nine trips from the largest candidate, then the self product off and a tenth taken. -/
def finalBlk (x0 : Vec F S256x64 .f32) (x1 : Vec F S8192x64 .f32) : FVec F S1x256 .f32 :=
  k1_pay7 x0 ((trip x0 x1)^[9] (k1_pay3 x0 x1, k1_pay4 x0 x1)).2

/-- What a grid point of the second region leaves in its block. -/
theorem out1_eq (c : Dev nD) (i : grid1.Coords) (a1 : Memref sig .tc .vmem S256x64 .f32) (h1 : a1.IsWhole)
    (a2 : Memref sig .tc .vmem S8192x64 .f32) (h2 : a2.IsWhole) (a3 : Memref sig .tc .vmem S1x256 .f32) (h3 : a3.IsWhole)
    (x0 : Vec F S256x64 .f32) (x1 : Vec F S8192x64 .f32) :
    out1_A_2 c i a1 h1 a2 h2 a3 h3 x0 x1 = finalBlk x0 x1 := by
  frame_out
  unfold finalBlk
  rw [Scf.fold_eq, show (fun (acc : FVec F S256x1 .f32 × FVec F S256 .f32) (_ : Fin k1_t1_loop.trips) =>
      (k1_pay5 x0 x1 acc.1, k1_pay6 x0 x1 acc.1 acc.2)) = fun acc _ => trip x0 x1 acc from rfl, List.foldl_const,
    List.length_finRange, show k1_t1_loop.trips = 9 by decide]

/-- What a grid point of the third region leaves in its block. -/
theorem out2_eq (c : Dev nD) (i : grid2.Coords) (a1 : Memref sig .tc .vmem S256x64 .f32) (h1 : a1.IsWhole)
    (a2 : Memref sig .tc .vmem S8192x64 .f32) (h2 : a2.IsWhole) (a3 : Memref sig .tc .vmem S1x8192 .f32) (h3 : a3.IsWhole)
    (a4 : Memref sig .tc .vmem S256x8192 .f32) (h4 : a4.IsWhole)
    (x0 : Vec F S256x64 .f32) (x1 : Vec F S8192x64 .f32) (x2 : Vec F S1x8192 .f32) :
    out2_A_3 c i a1 h1 a2 h2 a3 h3 a4 h4 x0 x1 x2
      = k2_pay1 x0 x1 x2 (View.ld x2 (Rect.unit (s := S1x8192) (k2_off1 i) S1x256.size (k2_off1_inb i))) := by
  frame_out

/-- What the first region leaves in its block. -/
theorem out0_eq (x0 : Vec F S8192x64 .f32) (x1 : Vec F S64x64 .f32) : out0_2 x0 x1 = k0_pay1 x0 x1 := by
  frame_out

end Cert.KernelIdeal.Value

end
-- ==== Proof.Arrays.lean ====
/- The arrays the three regions leave, over the arrays they find. -/
module

public import proofs.«01_k».proof.Proof.Blocks

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The 256 rows of an array of 8192 rows that belong to block `b`. -/
def rowBlk (n : FVec Ideal S8192x64 .f32) (b : Fin 32) : FVec Ideal S256x64 .f32 :=
  fun y => n (ix2 (⟨b.val * 256 + (y 0 : ℕ), by have := (y 0).isLt; have := b.isLt; simp at *; omega⟩ : Fin 8192) (y 1))

/-- The second region's array: block `b` of it is what the body stores over row block `b`. -/
def finalArr (n : FVec Ideal S8192x64 .f32) : FVec Ideal S1x8192 .f32 :=
  fun j => finalBlk (rowBlk n ⟨(j 1 : ℕ) / 256, by have := (j 1).isLt; simp at *; omega⟩) n
    (ix2 (0 : Fin 1) (⟨(j 1 : ℕ) % 256, by omega⟩ : Fin 256))

/-- The 256 entries of a one-row array of 8192 entries that belong to block `b`. -/
def colBlk (f : FVec Ideal S1x8192 .f32) (b : Fin 32) : FVec Ideal S1x256 .f32 :=
  fun y => f (ix2 (0 : Fin 1) (⟨b.val * 256 + (y 1 : ℕ), by have := (y 1).isLt; have := b.isLt; simp at *; omega⟩ : Fin 8192))

/-- The third region's array. -/
def distArr (n : FVec Ideal S8192x64 .f32) (f : FVec Ideal S1x8192 .f32) : FVec Ideal S8192x8192 .f32 :=
  fun j => k2_pay1 (rowBlk n ⟨(j 0 : ℕ) / 256, by have := (j 0).isLt; simp at *; omega⟩) n f
      (colBlk f ⟨(j 0 : ℕ) / 256, by have := (j 0).isLt; simp at *; omega⟩)
    (ix2 (⟨(j 0 : ℕ) % 256, by omega⟩ : Fin 256) (j 1))

/-- Where the blocks lie, at every grid point. -/
theorem idx0 : ∀ t : Fin cfg0.N, win0_0.index t = ![0, 0] ∧ win0_1.index t = ![0, 0] ∧ win0_2.index t = ![0, 0] :=
  (by decide +kernel : ∀ t : Fin grid0.N, _)
/-- Where the blocks lie, at every grid point. -/
theorem idx1 : ∀ t : Fin cfg1.N, win1_0.index t = ![t.val, 0] ∧ win1_1.index t = ![0, 0] ∧ win1_2.index t = ![0, t.val] :=
  (by decide +kernel : ∀ t : Fin grid1.N, _)
/-- Where the blocks lie, at every grid point. -/
theorem idx2 : ∀ t : Fin cfg2.N, win2_0.index t = ![t.val, 0] ∧ win2_1.index t = ![0, 0] ∧ win2_2.index t = ![0, 0]
    ∧ win2_3.index t = ![t.val, 0] :=
  (by decide +kernel : ∀ t : Fin grid2.N, _)
/-- Where the blocks lie, at every grid point. -/
theorem off2 : ∀ t : Fin cfg2.N, k2_off1 (grid2.coords t) = ![0, t.val * 256] :=
  (by decide +kernel : ∀ t : Fin grid2.N, _)

/-- The second region's array at the entry of row `r` of block `b`. -/
theorem finalArr_at (n : FVec Ideal S8192x64 .f32) (b : Fin 32) (r : Fin 256) (j : S1x8192.Idx)
    (h : (j 1 : ℕ) = b.val * 256 + r.val) : finalArr n j = finalBlk (rowBlk n b) n (ix2 (0 : Fin 1) r) := by
  have hq : (⟨(j 1 : ℕ) / 256, by have := (j 1).isLt; simp at *; omega⟩ : Fin 32) = b := Fin.ext (by simp; omega)
  have hr : (⟨(j 1 : ℕ) % 256, by omega⟩ : Fin 256) = r := Fin.ext (by simp; omega)
  unfold finalArr
  rw [hq, hr]

/-- The third region's array at row `r` of block `b`. -/
theorem distArr_at (n : FVec Ideal S8192x64 .f32) (f : FVec Ideal S1x8192 .f32) (b : Fin 32) (r : Fin 256)
    (l : Fin 8192) (j : S8192x8192.Idx)
    (h : (j 0 : ℕ) = b.val * 256 + r.val) (h1 : (j 1 : ℕ) = l.val) :
    distArr n f j = k2_pay1 (rowBlk n b) n f (colBlk f b) (ix2 r l) := by
  have hq : (⟨(j 0 : ℕ) / 256, by have := (j 0).isLt; simp at *; omega⟩ : Fin 32) = b := Fin.ext (by simp; omega)
  have hr : (⟨(j 0 : ℕ) % 256, by omega⟩ : Fin 256) = r := Fin.ext (by simp; omega)
  have hl : (j 1 : Fin 8192) = l := Fin.ext h1
  unfold distArr
  rw [hq, hr, hl]

/-- The third region reads from the second's array the entries of its own row block. -/
theorem ld_colBlk (f : Vec Ideal S1x8192 .f32) (t : Fin cfg2.N) (h) (b : Fin 32) (hb : b.val = t.val) :
    (View.ld (S := S1x8192) f (Rect.unit (s := S1x8192) (k2_off1 (grid2.coords t)) S1x256.size h) : Vec Ideal S1x256 .f32) = colBlk f b := by
  funext y
  unfold colBlk
  show f _ = f _
  congr 1
  funext a
  apply Fin.ext
  have e0 : k2_off1 (grid2.coords t) 0 = 0 := congrFun (off2 t) 0
  have e1 : k2_off1 (grid2.coords t) 1 = t.val * 256 := congrFun (off2 t) 1
  match a with
  | ⟨0, _⟩ =>
    show k2_off1 (grid2.coords t) 0 + 1 * (y 0).val = 0
    have hy : (y 0).val < 1 := (y 0).isLt
    omega
  | ⟨1, _⟩ =>
    show k2_off1 (grid2.coords t) 1 + 1 * (y 1).val = b.val * 256 + (y 1).val
    omega

/-- An input block, read off the array it stages. -/
theorem blk0_0 (c : Dev nD) (t : Fin cfg0.N) : iblk0 V c 0 t = V c main_arg0 := by blk_ext! [iblk0, idx0 t]
/-- An input block, read off the array it stages. -/
theorem blk0_1 (c : Dev nD) (t : Fin cfg0.N) : iblk0 V c 1 t = V c main_arg1 := by blk_ext! [iblk0, idx0 t]
/-- An input block, read off the array it stages. -/
theorem blk1_0 (c : Dev nD) (t : Fin cfg1.N) (b : Fin 32) (hb : b.val = t.val) :
    iblk1 V c 0 t = rowBlk (V c main_call0_v0) b := by
  funext y
  unfold rowBlk
  blk_ext! [iblk1, idx1 t, hb]
/-- An input block, read off the array it stages. -/
theorem blk1_1 (c : Dev nD) (t : Fin cfg1.N) : iblk1 V c 1 t = V c main_call0_v0 := by blk_ext! [iblk1, idx1 t]
/-- An input block, read off the array it stages. -/
theorem blk2_0 (c : Dev nD) (t : Fin cfg2.N) (b : Fin 32) (hb : b.val = t.val) :
    iblk2 V c 0 t = rowBlk (V c main_call0_v0) b := by
  funext y
  unfold rowBlk
  blk_ext! [iblk2, idx2 t, hb]
/-- An input block, read off the array it stages. -/
theorem blk2_1 (c : Dev nD) (t : Fin cfg2.N) : iblk2 V c 1 t = V c main_call0_v0 := by blk_ext! [iblk2, idx2 t]
/-- An input block, read off the array it stages. -/
theorem blk2_2 (c : Dev nD) (t : Fin cfg2.N) : iblk2 V c 2 t = V c main_call0_v1 := by blk_ext! [iblk2, idx2 t]

/-- The first region leaves the normalised rows. -/
theorem arr0 (c : Dev nD) : (dat0 V c).arrAt 2 cfg0.N = k0_pay1 (V c main_arg0) (V c main_arg1) := by
  refine (dat0 V c).arrAt_eq_of_covers 2 _ (by decide +kernel) fun t _ y => ?_
  blk_simp
  rw [after0_2, out0_eq, blk0_0, blk0_1]
  blk_ext! [idx0 t]

/-- The second region leaves, block by block, its body's values. -/
theorem arr1 (c : Dev nD) : (dat1 V c).arrAt 2 cfg1.N = finalArr (V c main_call0_v0) := by
  refine (dat1 V c).arrAt_eq_of_covers 2 _ (by decide +kernel) fun t _ y => ?_
  blk_simp
  rw [after1_2]
  unfold outsAt1
  have ht : t.val < 32 := lt_of_lt_of_eq t.isLt N_1
  rw [out1_eq, blk1_0 V c t ⟨t.val, ht⟩ rfl, blk1_1]
  rw [finalArr_at _ ⟨t.val, ht⟩ (y 1) _ (by blk_simp [idx1 t])]
  blk_ext!

/-- The third region leaves, block by block, its body's values. -/
theorem arr2 (c : Dev nD) : (dat2 V c).arrAt 3 cfg2.N = distArr (V c main_call0_v0) (V c main_call0_v1) := by
  refine (dat2 V c).arrAt_eq_of_covers 3 _ (by decide +kernel) fun t _ y => ?_
  blk_simp
  rw [after2_3]
  unfold outsAt2
  have ht : t.val < 32 := lt_of_lt_of_eq t.isLt N_2
  rw [out2_eq, blk2_0 V c t ⟨t.val, ht⟩ rfl, blk2_1, blk2_2, ld_colBlk _ t _ ⟨t.val, ht⟩ rfl]
  rw [distArr_at _ _ ⟨t.val, ht⟩ (y 0) (y 1) _ (by blk_simp [idx2 t]) (by blk_simp [idx2 t])]
  blk_ext!

end Cert.KernelIdeal.Value

end
-- ==== Proof.Value.lean ====
/- The idealized kernel's result array, over its two argument arrays. -/
module

public import proofs.«01_k».proof.Proof.Run
public import proofs.«01_k».proof.Proof.Arrays

@[expose] public section

set_option maxRecDepth 16384

noncomputable section

namespace Cert.KernelIdeal.Value

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The kernel's result over its arguments: normalise, take each row's final value, then the distances. -/
def kernelRes (x : FVec Ideal S8192x64 .f32) (w : FVec Ideal S64x64 .f32) : FVec Ideal S8192x8192 .f32 :=
  distArr (k0_pay1 x w) (finalArr (k0_pay1 x w))

/-- The normalised rows, as the second region finds them. -/
theorem norm_at1 (c : Dev nD) : V1 m ρ c main_call0_v0
    = k0_pay1 (m ((c.tc : Thread nD τ).loc main_arg0)) (m ((c.tc : Thread nD τ).loc main_arg1)) :=
  (W1_arr m ρ c 2).trans (arr0 (V0 m ρ) c)

/-- The normalised rows, as the third region finds them. -/
theorem norm_at2 (c : Dev nD) : V2 m ρ c main_call0_v0 = V1 m ρ c main_call0_v0 :=
  W2_of m ρ c main_call0_v0 (by decide)

/-- The rows' final values, as the third region finds them. -/
theorem final_at2 (c : Dev nD) : V2 m ρ c main_call0_v1 = finalArr (V1 m ρ c main_call0_v0) :=
  (W2_arr m ρ c 2).trans (arr1 (V1 m ρ) c)

/-- The result array at the end. -/
theorem result_eq (c : Dev nD) : W3 m ρ c (Proc.devRef .tc main_v0)
    = kernelRes (m ((c.tc : Thread nD τ).loc main_arg0)) (m ((c.tc : Thread nD τ).loc main_arg1)) := by
  refine ((W3_arr m ρ c 3).trans (arr2 (V2 m ρ) c)).trans ?_
  rw [norm_at2, final_at2, norm_at1]
  rfl

/-- The kernel runs, its result is `kernelRes` of the arguments, and the arguments are unchanged. -/
theorem run : θ_run defs (onTc (τ := τ) (main (F := Ideal))) ⟨m, fun _ => 0, ρ⟩ (fun r => ∀ c : Dev nD,
      r.2.mem ((c.tc : Thread nD τ).loc main_v0)
        = kernelRes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m ρ c), (h c).2⟩) (run_boundary m ρ)

end Cert.KernelIdeal.Value

end
-- ==== Proof.Shortlist.lean ====
/- The mathematics of the shortlist: three distinct values of each class of columns hold a row's ten greatest values. -/
module

public import Idealize.ShloMosaic.Lib.Pointwise

@[expose] public section

noncomputable section

namespace Cert.Shortlist

/-- The greatest of finitely many values, `⊥` of none. -/
def top {n : ℕ} (t : Fin n → EReal) : EReal := Finset.univ.fold max ⊥ t

/-- The greatest of the values below `m`, `⊥` when there is none. -/
def below {n : ℕ} (t : Fin n → EReal) (m : EReal) : EReal := top fun q => if t q < m then t q else ⊥

/-- Every value is at most the greatest. -/
theorem le_top {n : ℕ} (t : Fin n → EReal) (q : Fin n) : t q ≤ top t :=
  (Finset.le_fold_max (t q)).mpr (Or.inr ⟨q, Finset.mem_univ q, le_rfl⟩)

/-- A bound of all values bounds the greatest. -/
theorem top_le {n : ℕ} (t : Fin n → EReal) (v : EReal) (h : ∀ q, t q ≤ v) : top t ≤ v :=
  Finset.fold_max_le v |>.mpr ⟨bot_le, fun q _ => h q⟩

/-- The greatest value is one of the values, or `⊥`. -/
theorem top_mem {n : ℕ} (t : Fin n → EReal) : top t = ⊥ ∨ ∃ q, t q = top t := by
  by_cases h : top t = ⊥
  · exact Or.inl h
  · refine Or.inr ?_
    rcases (Finset.le_fold_max (s := Finset.univ) (f := t) (b := ⊥) (top t)).mp le_rfl with hb | ⟨q, _, hq⟩
    · exact absurd (le_bot_iff.mp hb) h
    · exact ⟨q, le_antisymm (le_top t q) hq⟩

/-- A value below `m` is at most the greatest value below `m`. -/
theorem le_below {n : ℕ} (t : Fin n → EReal) (m : EReal) (q : Fin n) (h : t q < m) : t q ≤ below t m := by
  have := le_top (fun q => if t q < m then t q else ⊥) q
  rwa [if_pos h] at this

/-- A bound of all values below `m` bounds the greatest of them. -/
theorem below_le {n : ℕ} (t : Fin n → EReal) (m v : EReal) (h : ∀ q, t q < m → t q ≤ v) : below t m ≤ v := by
  refine top_le _ _ fun q => ?_
  split
  · exact h q ‹_›
  · exact bot_le

/-- The greatest value below `m` is one of the values and is below `m`, or is `⊥`. -/
theorem below_mem {n : ℕ} (t : Fin n → EReal) (m : EReal) : below t m = ⊥ ∨ ∃ q, t q = below t m ∧ t q < m := by
  rcases top_mem (fun q => if t q < m then t q else ⊥) with h | ⟨q, hq⟩
  · exact Or.inl h
  · by_cases hlt : t q < m
    · exact Or.inr ⟨q, by rw [if_pos hlt] at hq; exact hq, hlt⟩
    · rw [if_neg hlt] at hq
      exact Or.inl hq.symm

/-- The values of the columns of class `c`. -/
def cls (g : Fin 8192 → EReal) (c : Fin 256) : Fin 32 → EReal := fun q => g ⟨q.val * 256 + c.val, by omega⟩

/-- The class's greatest value, its second and its third distinct ones. -/
def lvl (t : Fin 32 → EReal) : Fin 3 → EReal := fun p =>
  if p.val = 0 then top t else if p.val = 1 then below t (top t) else below t (below t (top t))

/-- Every level is a value of the class, or `⊥`. -/
theorem lvl_mem (t : Fin 32 → EReal) (p : Fin 3) : lvl t p = ⊥ ∨ ∃ q, t q = lvl t p := by
  unfold lvl
  split
  · exact top_mem t
  · split
    · exact (below_mem t _).imp id fun ⟨q, h, _⟩ => ⟨q, h⟩
    · exact (below_mem t _).imp id fun ⟨q, h, _⟩ => ⟨q, h⟩

/-- A value of the class is a level, or three distinct values of the class exceed it. -/
theorem lvl_or (t : Fin 32 → EReal) (q : Fin 32) :
    (∃ p, lvl t p = t q) ∨ ∃ q1 q2 q3, t q < t q3 ∧ t q3 < t q2 ∧ t q2 < t q1 := by
  have h1 : t q ≤ top t := le_top t q
  rcases h1.eq_or_lt with e1 | l1
  · exact Or.inl ⟨0, e1.symm⟩
  have h2 := le_below t (top t) q l1
  rcases h2.eq_or_lt with e2 | l2
  · exact Or.inl ⟨1, e2.symm⟩
  have h3 := le_below t (below t (top t)) q l2
  rcases h3.eq_or_lt with e3 | l3
  · exact Or.inl ⟨2, e3.symm⟩
  refine Or.inr ?_
  obtain ⟨q1, e1⟩ := (top_mem t).resolve_left (ne_of_gt (bot_le.trans_lt l1))
  obtain ⟨q2, e2, f2⟩ := (below_mem t (top t)).resolve_left (ne_of_gt (bot_le.trans_lt l2))
  obtain ⟨q3, e3, f3⟩ := (below_mem t (below t (top t))).resolve_left (ne_of_gt (bot_le.trans_lt l3))
  exact ⟨q1, q2, q3, by rw [e3]; exact l3, by rw [e2]; exact f3, by rw [e1]; exact f2⟩

/-- The shortlist: the three levels of each class. -/
def cand (g : Fin 8192 → EReal) : Fin 768 → EReal := fun l =>
  lvl (cls g ⟨l.val % 256, Nat.mod_lt _ (by norm_num)⟩) ⟨l.val / 256, by omega⟩

/-- A candidate is one of the row's values, or `⊥`. -/
theorem cand_mem (g : Fin 8192 → EReal) (l : Fin 768) : cand g l = ⊥ ∨ ∃ j, g j = cand g l :=
  (lvl_mem _ _).imp id fun ⟨q, h⟩ => ⟨_, h⟩

/-- The shortlist as three stretches of classes: first levels, second levels, third levels. -/
theorem cand_eq (g : Fin 8192 → EReal) (l : Fin 768) :
    cand g l = if h : l.val < 256 then top (cls g ⟨l.val, h⟩)
      else if h' : l.val - 256 < 256 then below (cls g ⟨l.val - 256, h'⟩) (top (cls g ⟨l.val - 256, h'⟩))
      else below (cls g ⟨l.val - 256 - 256, by omega⟩)
        (below (cls g ⟨l.val - 256 - 256, by omega⟩) (top (cls g ⟨l.val - 256 - 256, by omega⟩))) := by
  have hl := l.isLt
  unfold cand lvl
  split
  · rename_i h
    have h : l.val / 256 = 0 := h
    have e : (⟨l.val % 256, Nat.mod_lt _ (by norm_num)⟩ : Fin 256) = ⟨l.val, by omega⟩ := Fin.ext (by show l.val % 256 = l.val; omega)
    rw [dif_pos (by omega), e]
  · split
    · rename_i h0 h
      have h : l.val / 256 = 1 := h
      have e : (⟨l.val % 256, Nat.mod_lt _ (by norm_num)⟩ : Fin 256) = ⟨l.val - 256, by omega⟩ :=
        Fin.ext (by show l.val % 256 = l.val - 256; omega)
      rw [dif_neg (by omega), dif_pos (by omega), e]
    · rename_i h0 h1
      have h0 : ¬ l.val / 256 = 0 := h0
      have h1 : ¬ l.val / 256 = 1 := h1
      have e : (⟨l.val % 256, Nat.mod_lt _ (by norm_num)⟩ : Fin 256) = ⟨l.val - 256 - 256, by omega⟩ :=
        Fin.ext (by show l.val % 256 = l.val - 256 - 256; omega)
      rw [dif_neg (by omega), dif_neg (by omega), e]

/-- The row's `k`-th distinct greatest candidate. -/
def nth {n : ℕ} (t : Fin n → EReal) : ℕ → EReal
  | 0 => top t
  | k + 1 => below t (nth t k)

/-- The next distinct candidate is the greatest below the one before. -/
theorem nth_succ {n : ℕ} (t : Fin n → EReal) (k : ℕ) : nth t (k + 1) = below t (nth t k) := rfl

variable (g : Fin 8192 → EReal) (σ : Fin 8192 → Fin 8192)

/-- A column's value is on the shortlist when at most three of the ten greatest lie in its class. -/
theorem exists_cand (hs : Function.Surjective σ) (hm : ∀ p q, p ≤ q → g (σ q) ≤ g (σ p)) (a : Fin 8192) (ha : a.val < 10)
    (h3 : ¬ ∃ b1 b2 b3 : Fin 8192, b1 < b2 ∧ b2 < b3 ∧ b3 < a ∧ (σ b1).val % 256 = (σ a).val % 256 ∧
      (σ b2).val % 256 = (σ a).val % 256 ∧ (σ b3).val % 256 = (σ a).val % 256) :
    ∃ l, cand g l = g (σ a) := by
  have hc : (σ a).val % 256 < 256 := Nat.mod_lt _ (by norm_num)
  have hq : (σ a).val / 256 < 32 := by omega
  have hv : cls g ⟨(σ a).val % 256, hc⟩ ⟨(σ a).val / 256, hq⟩ = g (σ a) := by
    unfold cls
    congr 1
    apply Fin.ext
    show (σ a).val / 256 * 256 + (σ a).val % 256 = (σ a).val
    omega
  have hlt : ∀ b c : Fin 8192, g (σ b) < g (σ c) → c < b := fun b c h => by
    by_contra hn
    exact absurd (hm b c (not_lt.mp hn)) (not_le.mpr h)
  rcases lvl_or (cls g ⟨(σ a).val % 256, hc⟩) ⟨(σ a).val / 256, hq⟩ with ⟨p, hp⟩ | ⟨q1, q2, q3, h1, h2, h3'⟩
  · refine ⟨⟨p.val * 256 + (σ a).val % 256, by omega⟩, ?_⟩
    rw [← hv, ← hp]
    unfold cand
    have e1 : (⟨(p.val * 256 + (σ a).val % 256) % 256, Nat.mod_lt _ (by norm_num)⟩ : Fin 256) = ⟨(σ a).val % 256, hc⟩ := by
      apply Fin.ext; show (p.val * 256 + (σ a).val % 256) % 256 = (σ a).val % 256; omega
    have e2 : (⟨(p.val * 256 + (σ a).val % 256) / 256, by omega⟩ : Fin 3) = p := by
      apply Fin.ext; show (p.val * 256 + (σ a).val % 256) / 256 = p.val; omega
    show lvl (cls g ⟨(p.val * 256 + (σ a).val % 256) % 256, _⟩) ⟨(p.val * 256 + (σ a).val % 256) / 256, _⟩ = _
    rw [e1, e2]
  · exfalso
    rw [hv] at h1
    obtain ⟨b1, e1⟩ := hs ⟨q1.val * 256 + (σ a).val % 256, by omega⟩
    obtain ⟨b2, e2⟩ := hs ⟨q2.val * 256 + (σ a).val % 256, by omega⟩
    obtain ⟨b3, e3⟩ := hs ⟨q3.val * 256 + (σ a).val % 256, by omega⟩
    have f1 : cls g ⟨(σ a).val % 256, hc⟩ q1 = g (σ b1) := by rw [e1]; rfl
    have f2 : cls g ⟨(σ a).val % 256, hc⟩ q2 = g (σ b2) := by rw [e2]; rfl
    have f3 : cls g ⟨(σ a).val % 256, hc⟩ q3 = g (σ b3) := by rw [e3]; rfl
    rw [f3] at h1; rw [f2, f3] at h2; rw [f1, f2] at h3'
    refine h3 ⟨b1, b2, b3, hlt _ _ h3', hlt _ _ h2, hlt _ _ h1, ?_, ?_, ?_⟩
    · rw [e1]; show (q1.val * 256 + (σ a).val % 256) % 256 = _; omega
    · rw [e2]; show (q2.val * 256 + (σ a).val % 256) % 256 = _; omega
    · rw [e3]; show (q3.val * 256 + (σ a).val % 256) % 256 = _; omega

/-- The candidates' distinct greatest values are the row's, when the row's ten greatest are distinct and on the shortlist. -/
theorem nth_cand (hs : Function.Surjective σ) (hm : ∀ p q, p ≤ q → g (σ q) ≤ g (σ p))
    (hlt : ∀ a b : Fin 8192, b.val < 10 → b.val = a.val + 1 → g (σ b) < g (σ a))
    (hc : ∀ a : Fin 8192, a.val < 10 → ∃ l, cand g l = g (σ a)) (k : ℕ) (hk : k < 10) :
    nth (cand g) k = g (σ ⟨k, by omega⟩) := by
  induction k with
  | zero =>
    refine le_antisymm (top_le _ _ fun l => ?_) ?_
    · rcases cand_mem g l with h | ⟨j, h⟩
      · rw [h]; exact bot_le
      · obtain ⟨p, rfl⟩ := hs j
        rw [← h]
        exact hm _ p (Fin.mk_le_of_le_val (Nat.zero_le _))
    · obtain ⟨l, h⟩ := hc ⟨0, by omega⟩ (by norm_num)
      rw [← h]
      exact le_top _ l
  | succ k ih =>
    have ih := ih (by omega)
    show below (cand g) (nth (cand g) k) = _
    rw [ih]
    refine le_antisymm (below_le _ _ _ fun l hl => ?_) ?_
    · rcases cand_mem g l with h | ⟨j, h⟩
      · rw [h]; exact bot_le
      · obtain ⟨p, rfl⟩ := hs j
        rw [← h] at hl ⊢
        refine hm _ p ?_
        by_contra hn
        have : p.val ≤ k := by
          have := not_le.mp hn
          have : p.val < k + 1 := this
          omega
        exact absurd (hm p ⟨k, by omega⟩ this) (not_le.mpr hl)
    · obtain ⟨l, h⟩ := hc ⟨k + 1, by omega⟩ hk
      rw [← h]
      refine le_below _ _ l ?_
      rw [h]
      exact hlt ⟨k, by omega⟩ ⟨k + 1, by omega⟩ hk rfl

end Cert.Shortlist

end
-- ==== Proof.Cand.lean ====
/- The shortlist the kernel makes of one row: the three levels of each class of columns of the row's similarities. -/
module

public import proofs.«01_k».proof.Proof.Arrays
public import proofs.«01_k».proof.Proof.Shortlist
public import Idealize.ShloMosaic.Lib.Pointwise

@[expose] public section

set_option maxRecDepth 16384

noncomputable section

namespace Cert.KernelIdeal.Value

open Cert.KernelIdeal Cert.KernelIdeal.Gen Cert.Shortlist Idealize.ShloMosaic Idealize.ShloMosaic.TcCoe Idealize.SL.Sem

/-- The pattern the kernel's maxima start from is the least extended real. -/
theorem neg_inf : Ideal.ofBits FTy.f32 0xFF800000#32 = ⊥ := by
  simp [Ideal.ofBits, Ideal.ieee]

/-- The block as the kernel first has it is the block. -/
theorem pay1_eq (v0 : FVec Ideal S256x64 .f32) : k1_pay1 (F := Ideal) v0 = v0 := by
  funext j
  idx_vars j
  pointwise [k1_pay1]

/-- A row's similarities: its products with every row. -/
def simRow (v0 : FVec Ideal S256x64 .f32) (v3 : FVec Ideal S8192x64 .f32) (r : Fin 256) : Fin 8192 → EReal :=
  fun j => ∑ k : Fin 64, v0 (ix2 r k) * v3 (ix2 j k)

/-- The block's similarities, a row's cut into thirty-two stretches of one column of each class. -/
def cube (v0 : FVec Ideal S256x64 .f32) (v3 : FVec Ideal S8192x64 .f32) : FVec Ideal S256x32x256 .f32 :=
  shapeCast S256x32x256 (matmul dot_S256x64_S8192x64_S256x8192_1_1_0_0_n_n none (truncf .bf16 (k1_pay1 v0) bitsLt_bf16_f32)
    (truncf .bf16 (shapeCast S8192x64 v3 shapeCasts_S8192x64_S8192x64 : FVec Ideal S8192x64 .f32) bitsLt_bf16_f32)
    (constant S256x8192 .f32 0x00000000#32 : FVec Ideal S256x8192 .f32)) shapeCasts_S256x8192_S256x32x256

/-- The classes' greatest values. -/
def first (v7 : FVec Ideal S256x32x256 .f32) : FVec Ideal S256x256 .f32 :=
  multiReduction .maximumf [1] S256x256 v7 0xFF800000#32 reduces_S256x32x256_S256x256 (.inl rfl) rfl

/-- The classes' greatest values below given ones. -/
def next (v7 : FVec Ideal S256x32x256 .f32) (m : FVec Ideal S256x256 .f32) : FVec Ideal S256x256 .f32 :=
  multiReduction .maximumf [1] S256x256
    (select (cmpf .olt v7 (broadcastTo S256x32x256 (shapeCast S256x1x256 m shapeCasts_S256x256_S256x1x256)
      broadcasts_S256x1x256_S256x32x256)) v7 (broadcast S256x32x256 (Scalar.ofBits .f32 0xFF800000#32 : Ideal .f32)))
    0xFF800000#32 reduces_S256x32x256_S256x256 (.inl rfl) rfl

/-- The levels side by side. -/
def beside (a b c : FVec Ideal S256x256 .f32) : FVec Ideal S256x768 .f32 :=
  concatenate S256x768 1 [⟨S256x256, a⟩, ⟨S256x256, b⟩, ⟨S256x256, c⟩] concatenates_S256x256_S256x256_S256x256_S256x768_d1

/-- The kernel's shortlist is the three levels of its reshaped similarities, side by side. -/
theorem pay2_eq (v0 : FVec Ideal S256x64 .f32) (v3 : FVec Ideal S8192x64 .f32) :
    k1_pay2 (F := Ideal) v0 v3 = beside (first (cube v0 v3)) (next (cube v0 v3) (first (cube v0 v3)))
      (next (cube v0 v3) (next (cube v0 v3) (first (cube v0 v3)))) := rfl

/-- The reshaped similarities: slice `q` of class `c` in row `r` is the class's `q`-th member. -/
theorem cube_at (v0 : FVec Ideal S256x64 .f32) (v3 : FVec Ideal S8192x64 .f32) (r : Fin 256) (q : Fin 32) (c : Fin 256) :
    cube v0 v3 (ix3 r q c) = cls (simRow v0 v3 r) c q := by
  pointwise [cube]
  rw [pay1_eq]
  rfl

/-- The first level of a class is its greatest value. -/
theorem first_at (v7 : FVec Ideal S256x32x256 .f32) (r c : Fin 256) :
    first v7 (ix2 r c) = top fun q : Fin 32 => v7 (ix3 r q c) := by
  pointwise [first]
  rw [neg_inf]
  rfl

/-- The next level of a class is its greatest value below the level before. -/
theorem next_at (v7 : FVec Ideal S256x32x256 .f32) (m : FVec Ideal S256x256 .f32) (r c : Fin 256) :
    next v7 m (ix2 r c) = below (fun q : Fin 32 => v7 (ix3 r q c)) (m (ix2 r c)) := by
  pointwise [next]
  rw [neg_inf]
  rfl

/-- The levels side by side: 256 columns of each, in order. -/
theorem beside_at (a b c : FVec Ideal S256x256 .f32) (r : Fin 256) (l : Fin 768) :
    beside a b c (ix2 r l) = if h : l.val < 256 then a (ix2 r ⟨l.val, h⟩)
      else if h' : l.val - 256 < 256 then b (ix2 r ⟨l.val - 256, h'⟩) else c (ix2 r ⟨l.val - 256 - 256, by omega⟩) := by
  pointwise [beside]

/-- The kernel's shortlist of a row is the three levels of each class. -/
theorem cand_at (v0 : FVec Ideal S256x64 .f32) (v3 : FVec Ideal S8192x64 .f32) (r : Fin 256) (l : Fin 768) :
    k1_pay2 (F := Ideal) v0 v3 (ix2 r l) = cand (simRow v0 v3 r) l := by
  have hc : ∀ c : Fin 256, (fun q : Fin 32 => cube v0 v3 (ix3 r q c)) = cls (simRow v0 v3 r) c := fun c =>
    funext fun q => cube_at v0 v3 r q c
  rw [pay2_eq, beside_at, cand_eq]
  simp only [next_at, first_at, hc]

end Cert.KernelIdeal.Value

end
-- ==== Proof.Final.lean ====
/- A row's final value as the kernel computes it: the sum of the shortlist's ten greatest distinct values, less the row's
   product with itself, divided by ten. -/
module

public import proofs.«01_k».proof.Proof.Cand

@[expose] public section

set_option maxRecDepth 16384

noncomputable section

namespace Cert.KernelIdeal.Value

open Cert.KernelIdeal Cert.KernelIdeal.Gen Cert.Shortlist Idealize.ShloMosaic Idealize.ShloMosaic.TcCoe Idealize.SL.Sem

variable (v0 : FVec Ideal S256x64 .f32) (v3 : FVec Ideal S8192x64 .f32)

/-- The first value taken is the shortlist's greatest. -/
theorem pay3_at (r : Fin 256) : k1_pay3 (F := Ideal) v0 v3 (ix2 r (0 : Fin 1)) = top (cand (simRow v0 v3 r)) := by
  pointwise [k1_pay3]
  simp only [neg_inf, cand_at]
  rfl

/-- The sum starts at it. -/
theorem pay4_at (r : Fin 256) : k1_pay4 (F := Ideal) v0 v3 (ix1 r) = top (cand (simRow v0 v3 r)) := by
  pointwise [k1_pay4]
  exact pay3_at v0 v3 r

/-- A trip takes the greatest value below the last one. -/
theorem pay5_at (a : FVec Ideal S256x1 .f32) (r : Fin 256) :
    k1_pay5 (F := Ideal) v0 v3 a (ix2 r (0 : Fin 1)) = below (cand (simRow v0 v3 r)) (a (ix2 r (0 : Fin 1))) := by
  pointwise [k1_pay5]
  simp only [neg_inf, cand_at]
  rfl

/-- A trip adds it. -/
theorem pay6_at (a : FVec Ideal S256x1 .f32) (b : FVec Ideal S256 .f32) (r : Fin 256) :
    k1_pay6 (F := Ideal) v0 v3 a b (ix1 r) = b (ix1 r) + below (cand (simRow v0 v3 r)) (a (ix2 r (0 : Fin 1))) := by
  pointwise [k1_pay6]
  exact congrArg (b (ix1 r) + ·) (pay5_at v0 v3 a r)

/-- What a trip carries on as the current value. -/
theorem trip_fst (q : FVec Ideal S256x1 .f32 × FVec Ideal S256 .f32) :
    (trip (F := Ideal) v0 v3 q).1 = k1_pay5 (F := Ideal) v0 v3 q.1 := by
  simp only [trip]

/-- What a trip carries on as the sum. -/
theorem trip_snd (q : FVec Ideal S256x1 .f32 × FVec Ideal S256 .f32) :
    (trip (F := Ideal) v0 v3 q).2 = k1_pay6 (F := Ideal) v0 v3 q.1 q.2 := by
  simp only [trip]

/-- One trip from the `k`-th value, and the sum of all up to it, leads to the next. -/
theorem trip_at (r : Fin 256) (k : ℕ) (q : FVec Ideal S256x1 .f32 × FVec Ideal S256 .f32)
    (h1 : q.1 (ix2 r (0 : Fin 1)) = nth (cand (simRow v0 v3 r)) k)
    (h2 : q.2 (ix1 r) = ∑ a ∈ Finset.range (k + 1), nth (cand (simRow v0 v3 r)) a) :
    (trip (F := Ideal) v0 v3 q).1 (ix2 r (0 : Fin 1)) = nth (cand (simRow v0 v3 r)) (k + 1) ∧
      (trip (F := Ideal) v0 v3 q).2 (ix1 r) = ∑ a ∈ Finset.range (k + 1 + 1), nth (cand (simRow v0 v3 r)) a := by
  have e1 := pay5_at v0 v3 q.1 r
  have e2 := pay6_at v0 v3 q.1 q.2 r
  rw [h1] at e1 e2
  rw [h2] at e2
  rw [trip_fst, trip_snd, Finset.sum_range_succ _ (k + 1), nth_succ]
  exact ⟨e1, e2⟩

/-- After `k` trips: the `k`-th value, and the sum of all up to it. -/
theorem trips_at (r : Fin 256) (k : ℕ) (p1 : FVec Ideal S256x1 .f32) (p2 : FVec Ideal S256 .f32)
    (h1 : p1 (ix2 r (0 : Fin 1)) = top (cand (simRow v0 v3 r))) (h2 : p2 (ix1 r) = top (cand (simRow v0 v3 r))) :
    ((trip (F := Ideal) v0 v3)^[k] (p1, p2)).1 (ix2 r (0 : Fin 1)) = nth (cand (simRow v0 v3 r)) k ∧
      ((trip (F := Ideal) v0 v3)^[k] (p1, p2)).2 (ix1 r) = ∑ a ∈ Finset.range (k + 1), nth (cand (simRow v0 v3 r)) a := by
  induction k with
  | zero =>
    rw [Function.iterate_zero_apply, Finset.sum_range_one]
    exact ⟨h1, h2⟩
  | succ k ih =>
    rw [Function.iterate_succ_apply']
    generalize (trip (F := Ideal) v0 v3)^[k] (p1, p2) = q at ih ⊢
    exact trip_at v0 v3 r k q ih.1 ih.2

/-- The row's final value. -/
theorem finalBlk_at (r : Fin 256) :
    finalBlk (F := Ideal) v0 v3 (ix2 (0 : Fin 1) r)
      = Ideal.div ((∑ a ∈ Finset.range 10, nth (cand (simRow v0 v3 r)) a) - ∑ k : Fin 64, v0 (ix2 r k) * v0 (ix2 r k))
          (Ideal.ofBits FTy.f32 0x41200000#32) := by
  have h := (trips_at v0 v3 r 9 (k1_pay3 (F := Ideal) v0 v3) (k1_pay4 (F := Ideal) v0 v3) (pay3_at v0 v3 r) (pay4_at v0 v3 r)).2
  unfold finalBlk
  generalize ((trip (F := Ideal) v0 v3)^[9] (k1_pay3 (F := Ideal) v0 v3, k1_pay4 (F := Ideal) v0 v3)).2 = s at h ⊢
  pointwise [k1_pay7]
  rw [h, pay1_eq]

/-- A distance, at its place. -/
theorem dist_at (f : FVec Ideal S1x8192 .f32) (g : FVec Ideal S1x256 .f32) (r : Fin 256) (l : Fin 8192) :
    k2_pay1 (F := Ideal) v0 v3 f g (ix2 r l)
      = 1 + simRow v0 v3 r l * Ideal.ofBits FTy.f32 0xC0000000#32 + g (ix2 (0 : Fin 1) r) + f (ix2 (0 : Fin 1) l) := by
  pointwise [k2_pay1]
  rfl

end Cert.KernelIdeal.Value

end
-- ==== Proof.Ref.lean ====
/- The reference's result in stages: the normalised rows, the similarities, the neighbours, the rows' final values. -/
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The embedded rows. -/
def refEmb (x : FVec Ideal S8192x64 .f32) (w : FVec Ideal S64x64 .f32) : FVec Ideal S8192x64 .f32 :=
  Host.dotGeneral dot_S8192x64_S64x64_S8192x64_1_0_0_1_n_n none x (transpose S64x64 [1, 0] w transposes_S64x64_S64x64_1_0)

/-- The normalised rows. -/
def refNorm (x : FVec Ideal S8192x64 .f32) (w : FVec Ideal S64x64 .f32) : FVec Ideal S8192x64 .f32 :=
  Host.divf (refEmb x w) (broadcastInDim S8192x64 ![0, 1] bcast_S8192x1_S8192x64_0_1 (maximumf (Host.sqrt
    (broadcastInDim S8192x1 ![0] bcast_S8192_S8192x1_0 (Host.reduceAdd (mulf (refEmb x w) (refEmb x w))
      (constant S_ .f32 0x00000000#32) reducesTo_S8192x64_S8192_d1 h_S_)))
    (broadcastInDim S8192x1 ![] bcast_S_S8192x1 (constant S_ .f32 0x2B8CBCCC#32))))

/-- The similarities of the rows. -/
def refSim (n : FVec Ideal S8192x64 .f32) : FVec Ideal S8192x8192 .f32 :=
  Host.dotGeneral dot_S8192x64_S64x8192_S8192x8192_1_0_0_1_n_n none n (transpose S64x8192 [1, 0] n transposes_S8192x64_S64x8192_1_0)

/-- The eleven greatest similarities of each row, with their columns. -/
def refTop (s : FVec Ideal S8192x8192 .f32) : FVec Ideal S8192x11 .f32 × IVec S8192x11 32 :=
  Host.topK S8192x11 1 (FloatOps.cmpfTotal .gt) s sliceFits_S8192x8192_S8192x11

/-- The neighbours' columns: the second to the tenth. -/
def refNbr (t : IVec S8192x11 32) : IVec S8192x9 32 :=
  extractStridedSlice S8192x9 ![0, 0] (extractStridedSlice S8192x10 ![0, 1] t slices_S8192x11_S8192x10_0_1) slices_S8192x10_S8192x9_0_0

/-- The columns counted from the front, a negative one from the back. -/
def refWrap (b : IVec S8192x9 32) : IVec S8192x9x1 32 :=
  broadcastInDim S8192x9x1 ![0, 1] bcast_S8192x9_S8192x9x1_0_1
    (select (cmpi .slt b (broadcastInDim S8192x9 ![] bcast_S_S8192x9 (constantI S_ 32 0#32)))
      (addi b (broadcastInDim S8192x9 ![] bcast_S_S8192x9 (constantI S_ 32 8192#32))) b)

/-- Which of the columns are those of a row. -/
def refOk (i : IVec S8192x9x1 32) : IVec S8192x9 1 :=
  Host.reduce IntOp.andi (andi (cmpi .sge i (broadcastInDim S8192x9x1 ![] bcast_S_S8192x9x1 (constantI S_ 32 0#32)))
    (cmpi .sle i (broadcastInDim S8192x9x1 ![0, 1, 2] bcast_S1x1x1_S8192x9x1_0_1_2
      (broadcastInDim S1x1x1 ![2] bcast_S1_S1x1x1_2 (constantI S1 32 8191#32)))))
    (constantI S_ 1 1#1) reducesTo_S8192x9x1_S8192x9_d2 h_S_

/-- The neighbours' rows. -/
def refRows (n : FVec Ideal S8192x64 .f32) (i : IVec S8192x9x1 32) : FVec Ideal S8192x9x64 .f32 :=
  select (broadcastInDim S8192x9x64 ![0, 1] bcast_S8192x9_S8192x9x64_0_1 (refOk i))
    (Host.gather gather_S8192x64_S8192x9x1_S8192x9x64_2_0_n_n_0_2_164 n i)
    (broadcastInDim S8192x9x64 ![] bcast_S_S8192x9x64 (constant S_ .f32 0x7FC00000#32))

/-- Each row's final value: a tenth of its product with the sum of its neighbours. -/
def refFin (n : FVec Ideal S8192x64 .f32) (r : FVec Ideal S8192x9x64 .f32) : FVec Ideal S8192 .f32 :=
  Host.divf (Host.reduceAdd (mulf n (Host.reduceAdd r (constant S_ .f32 0x00000000#32) reducesTo_S8192x9x64_S8192x64_d1 h_S_))
      (constant S_ .f32 0x00000000#32) reducesTo_S8192x64_S8192_d1 h_S_)
    (broadcastInDim S8192 ![] bcast_S_S8192 (constant S_ .f32 0x41200000#32))

/-- The distances. -/
def refDist (s : FVec Ideal S8192x8192 .f32) (f : FVec Ideal S8192 .f32) : FVec Ideal S8192x8192 .f32 :=
  addf (addf (broadcastInDim S8192x8192 ![] bcast_S_S8192x8192 (constant S_ .f32 0x3F800000#32))
      (mulf s (broadcastInDim S8192x8192 ![] bcast_S_S8192x8192 (constant S_ .f32 0xC0000000#32))))
    (addf (broadcastInDim S8192x8192 ![0, 1] bcast_S8192x1_S8192x8192_0_1 (broadcastInDim S8192x1 ![0] bcast_S8192_S8192x1_0 f))
      (broadcastInDim S8192x8192 ![0, 1] bcast_S1x8192_S8192x8192_0_1 (broadcastInDim S1x8192 ![1] bcast_S8192_S1x8192_1 f)))

/-- The result over the normalised rows. -/
def refRes (n : FVec Ideal S8192x64 .f32) : FVec Ideal S8192x8192 .f32 :=
  refDist (refSim n) (refFin n (refRows n (refWrap (refNbr (refTop (refSim n)).2))))

/-- The program's result is its stages composed. -/
theorem res_eq (m : (ℓ : Loc nD τ sig) → Buf (Elt Ideal) ℓ) (c : Dev nD) :
    res_main_v26 m c = refRes (refNorm (m ((c.tc : Thread nD τ).loc main_arg0)) (m ((c.tc : Thread nD τ).loc main_arg1))) := by
  unfold res_main_v26
  rfl

/-- A similarity is the product of two rows. -/
theorem refSim_at (n : FVec Ideal S8192x64 .f32) (i j : Fin 8192) :
    refSim n (ix2 i j) = ∑ k : Fin 64, n (ix2 i k) * n (ix2 j k) := by
  pointwise [refSim]

/-- A distance, at its place. -/
theorem refDist_at (s : FVec Ideal S8192x8192 .f32) (f : FVec Ideal S8192 .f32) (i j : Fin 8192) :
    refDist s f (ix2 i j) = 1 + s (ix2 i j) * Ideal.ofBits FTy.f32 0xC0000000#32 + (f (ix1 i) + f (ix1 j)) := by
  pointwise [refDist]

/-- A row's final value. -/
theorem refFin_at (n : FVec Ideal S8192x64 .f32) (r : FVec Ideal S8192x9x64 .f32) (i : Fin 8192) :
    refFin n r (ix1 i) = Ideal.div (∑ k : Fin 64, n (ix2 i k) * ∑ a : Fin 9, r (ix3 i a k)) (Ideal.ofBits FTy.f32 0x41200000#32) := by
  pointwise [refFin]

/-- The neighbours are the second to the tenth of the greatest. -/
theorem refNbr_at (t : IVec S8192x11 32) (i : Fin 8192) (a : Fin 9) : refNbr t (ix2 i a) = t (ix2 i ⟨1 + a.val, by omega⟩) := by
  pointwise [refNbr]

/-- The comparisons a column's word passes. -/
theorem col_word (p : Fin 8192) :
    IntOp.cmpi CmpIPredicate.slt (BitVec.ofNat 32 p.val) 0#32 = 0#1 ∧ IntOp.cmpi CmpIPredicate.sge (BitVec.ofNat 32 p.val) 0#32 = 1#1 ∧
      IntOp.cmpi CmpIPredicate.sle (BitVec.ofNat 32 p.val) 8191#32 = 1#1 ∧ (BitVec.ofNat 32 p.val).toInt = p.val := by
  have hp := p.isLt
  have ht : (BitVec.ofNat 32 p.val).toInt = p.val := by
    rw [BitVec.toInt_ofNat']
    simp only [Int.bmod]
    omega
  have h0 : (0#32).toInt = 0 := by decide
  have h1 : (8191#32).toInt = 8191 := by decide
  refine ⟨?_, ?_, ?_, ht⟩
  · show BitVec.ofBool (BitVec.slt _ _) = _
    rw [BitVec.slt_eq_decide, ht, h0, decide_eq_false (by omega)]
    rfl
  · show BitVec.ofBool (BitVec.sle _ _) = _
    rw [BitVec.sle_eq_decide, ht, h0, decide_eq_true (by omega)]
    rfl
  · show BitVec.ofBool (BitVec.sle _ _) = _
    rw [BitVec.sle_eq_decide, ht, h1, decide_eq_true (by omega)]
    rfl

/-- A column's word is not negative, so it stays. -/
theorem refWrap_at (b : IVec S8192x9 32) (i : Fin 8192) (a : Fin 9) (p : Fin 8192) (h : b (ix2 i a) = BitVec.ofNat 32 p.val) (z : Fin 1) :
    refWrap b (ix3 i a z) = BitVec.ofNat 32 p.val := by
  pointwise [refWrap]
  rw [h, (col_word p).1]
  rfl

/-- A neighbour's row is the row of the word that names it. -/
theorem refRows_at (n : FVec Ideal S8192x64 .f32) (w : IVec S8192x9x1 32) (i : Fin 8192) (a : Fin 9) (k : Fin 64)
    (p : Fin 8192) (h : ∀ z : Fin 1, w (ix3 i a z) = BitVec.ofNat 32 p.val) :
    refRows n w (ix3 i a k) = n (ix2 p k) := by
  have hg : Host.gather gather_S8192x64_S8192x9x1_S8192x9x64_2_0_n_n_0_2_164 n w (ix3 i a k) = n (ix2 p k) := by
    unfold Host.gather
    congr 1
    have hs : ∀ c, GatherDims.siIdx gather_S8192x64_S8192x9x1_S8192x9x64_2_0_n_n_0_2_164 (ix3 i a k) c = ix3 i a (0 : Fin 1) := by
      intro c
      funext b
      fin_cases b
      · rfl
      · rfl
      · exact Subsingleton.elim (α := Fin 1) _ _
    funext b
    apply Fin.ext
    fin_cases b
    · show GatherDims.start _ (ix3 i a k) w 0 + GatherDims.batchCoord _ (ix3 i a k) 0 + GatherDims.offCoord _ (ix3 i a k) 0 = p.val
      rw [GatherDims.batchCoord_eq_zero _ _ _ (by decide), GatherDims.offCoord_eq_zero _ _ _ (by decide)]
      unfold GatherDims.start
      rw [dif_pos (by decide), hs, h, (col_word p).2.2.2]
      have hp := p.isLt
      show min p.val (8192 - 1) + 0 + 0 = p.val
      omega
    · show GatherDims.start _ (ix3 i a k) w 1 + GatherDims.batchCoord _ (ix3 i a k) 1 + GatherDims.offCoord _ (ix3 i a k) 1 = k.val
      rw [GatherDims.batchCoord_eq_zero _ _ _ (by decide)]
      unfold GatherDims.start GatherDims.offCoord
      rw [dif_neg (by decide), dif_pos (by decide), Nat.add_zero, Nat.zero_add]
      rfl
  pointwise [refRows, refOk]
  rw [hg]
  have hm : (Finset.univ : Finset (Fin 1)).fold IntOp.andi (1#1)
        (fun x => IntOp.andi (IntOp.cmpi CmpIPredicate.sge (w (ix3 i a x)) 0#32)
            (IntOp.cmpi CmpIPredicate.sle (w (ix3 i a x)) 8191#32)) = 1#1 := by
    rw [Finset.univ_unique, Finset.fold_singleton, h, (col_word p).2.1, (col_word p).2.2.1]
    rfl
  rw [hm]
  rfl

end Cert.ReferenceIdeal.Value

end
-- ==== Proof.Norm.lean ====
/- The normalised rows: the kernel's are the reference's, and every entry is a real number. -/
module

public import proofs.«01_k».proof.Proof.Arrays
public import proofs.«01_k».proof.Proof.Ref

@[expose] public section

set_option maxRecDepth 16384

noncomputable section

namespace Cert.KernelIdeal.Value

open Cert.KernelIdeal Cert.KernelIdeal.Gen Idealize.ShloMosaic Idealize.ShloMosaic.TcCoe Idealize.SL.Sem

/-- The kernel's normalised rows are the reference's. -/
theorem norm_eq (x : FVec Ideal S8192x64 .f32) (w : FVec Ideal S64x64 .f32) :
    k0_pay1 (F := Ideal) x w = Cert.ReferenceIdeal.Value.refNorm x w := by
  funext j
  idx_vars j
  pointwise [k0_pay1, Cert.ReferenceIdeal.Value.refNorm, Cert.ReferenceIdeal.Value.refEmb]

/-- The floor of the norms is a positive real number. -/
theorem floor_pos : ∃ e : ℝ, 0 < e ∧ Ideal.ofBits FTy.f32 0x2B8CBCCC#32 = (e : EReal) := by
  simp only [Ideal.ofBits, Ideal.ieee]
  rw [if_neg (by decide), if_neg (by decide)]
  refine ⟨_, ?_, rfl⟩
  rw [if_neg (by decide), one_mul]
  exact mul_pos (by positivity) (by positivity)

/-- The coercion of reals keeps sums. -/
theorem coe_sum {ι : Type} (t : Finset ι) (f : ι → ℝ) : ((∑ k ∈ t, f k : ℝ) : EReal) = ∑ k ∈ t, (f k : EReal) :=
  map_sum (⟨⟨Real.toEReal, EReal.coe_zero⟩, EReal.coe_add⟩ : ℝ →+ EReal) f t

/-- A row divided by its norm is a row of real numbers, whatever the row holds: an infinite entry makes the norm infinite. -/
theorem quot_real (E : Fin 64 → EReal) (e : ℝ) (he : 0 < e) (l : Fin 64) :
    ∃ r : ℝ, Ideal.div (E l) (max (Ideal.sqrt (∑ k, E k * E k)) (e : EReal)) = (r : EReal) := by
  have hsq : ∀ k, 0 ≤ E k * E k := fun k => by
    induction E k using EReal.rec with
    | bot => simp
    | top => simp
    | coe x => exact_mod_cast mul_self_nonneg x
  by_cases h : ∃ k, E k = ⊤ ∨ E k = ⊥
  · obtain ⟨k, hk⟩ := h
    have hs : ∑ k, E k * E k = ⊤ := by
      refine top_le_iff.mp (le_trans ?_ (Finset.single_le_sum (fun k _ => hsq k) (Finset.mem_univ k)))
      rcases hk with hk | hk <;> simp [hk]
    refine ⟨0, ?_⟩
    rw [hs]
    show Ideal.div (E l) (max ⊤ _) = _
    unfold Ideal.div
    rw [max_eq_left le_top, if_neg (by simp)]
    simp
  · have hr : ∀ k, ∃ r : ℝ, E k = (r : EReal) := fun k => by
      have hk : ¬ (E k = ⊤ ∨ E k = ⊥) := fun hk => h ⟨k, hk⟩
      rw [not_or] at hk
      exact ⟨(E k).toReal, (EReal.coe_toReal hk.1 hk.2).symm⟩
    choose f hf using hr
    have hs : ∑ k, E k * E k = ((∑ k, f k * f k : ℝ) : EReal) := by
      rw [coe_sum]
      exact Finset.sum_congr rfl fun k _ => by rw [hf k, EReal.coe_mul]
    have hp : ¬ (∑ k, f k * f k) < 0 := not_lt.mpr (Finset.sum_nonneg fun k _ => mul_self_nonneg (f k))
    refine ⟨f l * (max (Real.sqrt (∑ k, f k * f k)) e)⁻¹, ?_⟩
    rw [hs, hf l]
    have hq : Ideal.sqrt ((∑ k, f k * f k : ℝ) : EReal) = ((Real.sqrt (∑ k, f k * f k) : ℝ) : EReal) := if_neg hp
    rw [hq, ← EReal.coe_strictMono.monotone.map_max]
    unfold Ideal.div
    have hm : 0 < max (Real.sqrt (∑ k, f k * f k)) e := lt_max_of_lt_right he
    rw [if_neg (by exact_mod_cast hm.ne'), EReal.coe_mul, EReal.coe_inv]

/-- Every entry of the normalised rows is a real number. -/
theorem norm_real (x : FVec Ideal S8192x64 .f32) (w : FVec Ideal S64x64 .f32) :
    ∃ N : Fin 8192 → Fin 64 → ℝ, ∀ i k, Cert.ReferenceIdeal.Value.refNorm x w (ix2 i k) = (N i k : EReal) := by
  have h : ∀ i k, ∃ r : ℝ, Cert.ReferenceIdeal.Value.refNorm x w (ix2 i k) = (r : EReal) := fun i k => by
    obtain ⟨e, he, heq⟩ := floor_pos
    obtain ⟨r, hr⟩ := quot_real (fun l => Cert.ReferenceIdeal.Value.refEmb x w (ix2 i l)) e he k
    refine ⟨r, Eq.trans ?_ hr⟩
    pointwise [Cert.ReferenceIdeal.Value.refNorm]
    rw [heq]
  choose N hN using h
  exact ⟨N, hN⟩

end Cert.KernelIdeal.Value

end
-- ==== Proof.TopK.lean ====
/- The eleven greatest of each row: the leading entries of one rearrangement of the row that puts no smaller entry before a greater one. -/
module

public import Idealize.ShloMosaic.Lib.Pointwise
public import Idealize.ShloMosaic.Lib.SortFacts

@[expose] public section

set_option maxRecDepth 16384

noncomputable section

namespace Cert.Shortlist

open Idealize.ShloMosaic Idealize.ShloMosaic.TcCoe

abbrev SqS : Shape := ⟨2, ![8192, 8192]⟩
abbrev TopS : Shape := ⟨2, ![8192, 11]⟩

/-- "Sorts before" on the row's columns: the greater value. -/
def before (g : Fin 8192 → EReal) (k k' : Fin 8192) : Bool := decide (g k' < g k)

/-- The column that takes the `p`-th place of the row in descending order. -/
def order (g : Fin 8192 → EReal) : Fin 8192 → Fin 8192 := sortedFrom (before g)

/-- Every column has a place in the order. -/
theorem order_surjective (g : Fin 8192 → EReal) : Function.Surjective (order g) := sortedFrom_surjective _

/-- No column has two places in the order. -/
theorem order_injective (g : Fin 8192 → EReal) : Function.Injective (order g) := sortedFrom_injective _

/-- The values descend along the order. -/
theorem order_antitone (g : Fin 8192 → EReal) (p q : Fin 8192) (h : p ≤ q) : g (order g q) ≤ g (order g p) := by
  rcases h.eq_or_lt with rfl | h
  · exact le_rfl
  · have := sortedFrom_noInversion (before g) (before g)
      (fun a b hab => by simp only [before, decide_eq_true_eq, decide_eq_false_iff_not, not_lt] at *; exact hab.le)
      (fun a b hab => hab)
      (fun a b c hab hbc => by simp only [before, decide_eq_false_iff_not, not_lt] at *; exact hab.trans hbc) p q h
    simp only [before, decide_eq_false_iff_not, not_lt] at this
    exact this

/-- Moving along the second axis replaces the column. -/
theorem along_one (i l k : Fin 8192) : Shape.Idx.along (s := SqS) (ix2 i l) (1 : Fin 2) k = ix2 i k := by
  funext a
  fin_cases a <;> rfl

/-- The comparison the sort makes of two columns of a row is the comparison of their values. -/
theorem before_eq (s : FVec Ideal SqS .f32) (i l : Fin 8192) :
    (fun k k' : Fin 8192 => (FloatOps.cmpfTotal (F := Ideal) (φ := .f32) .gt (s (Shape.Idx.along (s := SqS) (ix2 i l) (1 : Fin 2) k))
      (s (Shape.Idx.along (s := SqS) (ix2 i l) (1 : Fin 2) k')) == 1#1)) = before fun j => s (ix2 i j) := by
  funext k k'
  rw [along_one, along_one]
  show (BitVec.ofBool (decide (s (ix2 i k') < s (ix2 i k))) == 1#1) = decide (s (ix2 i k') < s (ix2 i k))
  cases decide (s (ix2 i k') < s (ix2 i k)) <;> rfl

/-- The sorted row's entries at a place: the values, and the columns they stand in as 32-bit words. -/
theorem sort_at (s : FVec Ideal SqS .f32) (w : IVec SqS 32) (i l : Fin 8192) (j : SqS.Idx) (hj : j = ix2 i l) :
    (Host.sort2 SqS 1 (fun p q => FloatOps.cmpfTotal (F := Ideal) (φ := .f32) .gt p.1 q.1) s w).1 j
        = s (ix2 i (order (fun j => s (ix2 i j)) l)) ∧
      (Host.sort2 SqS 1 (fun p q => FloatOps.cmpfTotal (F := Ideal) (φ := .f32) .gt p.1 q.1) s w).2 j
        = w (ix2 i (order (fun j => s (ix2 i j)) l)) := by
  subst hj
  have e := congrFun (congrArg sortedFrom (before_eq s i l)) l
  unfold Host.sort2
  rw [dif_pos (by decide)]
  constructor
  · exact (congrArg (fun k : Fin 8192 => s (Shape.Idx.along (s := SqS) (ix2 i l) (1 : Fin 2) k)) e).trans
      (congrArg s (along_one i l _))
  · exact (congrArg (fun k : Fin 8192 => w (Shape.Idx.along (s := SqS) (ix2 i l) (1 : Fin 2) k)) e).trans
      (congrArg w (along_one i l _))

/-- The columns' numbers as 32-bit words. -/
def colW : IVec SqS 32 := fun j => if hd : 1 < SqS.rank then iotaInDim SqS 32 ⟨1, hd⟩ j else 0#32

/-- The eleven greatest of a row are its first eleven in descending order. -/
theorem topK_val (s : FVec Ideal SqS .f32) (h : SqS.Slices (fun _ => 0) TopS) (i : Fin 8192) (a : Fin 11) :
    (Host.topK TopS 1 (FloatOps.cmpfTotal (F := Ideal) (φ := .f32) .gt) s h).1 (ix2 i a)
      = s (ix2 i (order (fun j => s (ix2 i j)) ⟨a.val, by omega⟩)) := by
  refine (sort_at s colW i ⟨a.val, by omega⟩ (fun b => ⟨0 + (ix2 i a b).val, _⟩) ?_).1
  funext b
  fin_cases b <;> exact Fin.ext (Nat.zero_add _)

/-- The columns the eleven greatest stand in. -/
theorem topK_col (s : FVec Ideal SqS .f32) (h : SqS.Slices (fun _ => 0) TopS) (i : Fin 8192) (a : Fin 11) :
    (Host.topK TopS 1 (FloatOps.cmpfTotal (F := Ideal) (φ := .f32) .gt) s h).2 (ix2 i a)
      = BitVec.ofNat 32 (order (fun j => s (ix2 i j)) ⟨a.val, by omega⟩).val := by
  refine (sort_at s colW i ⟨a.val, by omega⟩ (fun b => ⟨0 + (ix2 i a b).val, _⟩) ?_).2.trans rfl
  funext b
  fin_cases b <;> exact Fin.ext (Nat.zero_add _)

end Cert.Shortlist

end
-- ==== Proof.Pre.lean ====
/- The precondition in words of a row's similarities in descending order. -/
module

public import proofs.«01_k».proof.Proof.Ref
public import proofs.«01_k».proof.Proof.TopK
public import proofs.«01_k».proof.Pre_shortlist_is_exact

@[expose] public section

set_option maxRecDepth 16384

noncomputable section

namespace Cert.Pre_shortlist_is_exact

open Cert.Shortlist Idealize.ShloMosaic Idealize.ShloMosaic.TcCoe Facts

variable [Facts]

/-- Whether each row's greatest stands in the row's own column. -/
def selfBits (t : IVec S8192x11 32) : IVec S8192x1 1 :=
  cmpi .eq (extractStridedSlice S8192x1 ![0, 0] t slices_S8192x11_S8192x1_0_0) (iotaInDim S8192x1 32 0)

/-- Whether each of the greatest exceeds the next. -/
def tieBits (v : FVec Ideal S8192x11 .f32) : IVec S8192x9 1 :=
  cmpf .ogt (extractStridedSlice S8192x9 ![0, 0] v slices_S8192x11_S8192x9_0_0) (extractStridedSlice S8192x9 ![0, 1] v slices_S8192x11_S8192x9_0_1)

/-- The classes of the ten greatest. -/
def classes (t : IVec S8192x11 32) : IVec S8192x10 32 :=
  Host.remsi (extractStridedSlice S8192x10 ![0, 0] t slices_S8192x11_S8192x10_0_0)
    (broadcastInDim S8192x10 ![] bcast_S_S8192x10 (constantI S_ 32 256#32))

/-- Whether each of the ten shares its class with at most two others of them. -/
def spreadBits (c : IVec S8192x10 32) : IVec S8192x10 1 :=
  cmpi .sle (Host.reduce IntOp.addi (extui 32 (cmpi .eq
      (broadcastInDim S8192x10x10 ![0, 1, 2] bcast_S8192x10x1_S8192x10x10_0_1_2 (broadcastInDim S8192x10x1 ![0, 1] bcast_S8192x10_S8192x10x1_0_1 c))
      (broadcastInDim S8192x10x10 ![0, 1, 2] bcast_S8192x1x10_S8192x10x10_0_1_2 (broadcastInDim S8192x1x10 ![0, 2] bcast_S8192x10_S8192x1x10_0_2 c)))
      natLt_1_32) (constantI S_ 32 0#32) reducesTo_S8192x10x10_S8192x10_d2 h_S_)
    (broadcastInDim S8192x10 ![] bcast_S_S8192x10 (constantI S_ 32 3#32))

/-- The precondition's three results over the reference's normalised rows. -/
theorem fn_eq (x : FVec Ideal S8192x64 .f32) (w : FVec Ideal S64x64 .f32) :
    fn (F := Ideal) x w =
      let t := Cert.ReferenceIdeal.Value.refTop (Cert.ReferenceIdeal.Value.refSim (Cert.ReferenceIdeal.Value.refNorm x w))
      (selfBits t.2, tieBits t.1, spreadBits (classes t.2)) := rfl

/-- A comparison's word is one only when the comparison holds. -/
theorem of_eq (a b : BitVec 32) (h : IntOp.cmpi CmpIPredicate.eq a b = 1#1) : a = b := by
  have h : BitVec.ofBool (a == b) = 1#1 := h
  by_contra hn
  rw [beq_eq_false_iff_ne.mpr hn] at h
  exact absurd h (by decide)

/-- A column's remainder is its class. -/
theorem rem_word (p : Fin 8192) : IntOp.remsi ArithUnit.host (BitVec.ofNat 32 p.val) 256#32 = BitVec.ofNat 32 (p.val % 256) := by
  have hp := p.isLt
  unfold IntOp.remsi
  rw [if_neg (by
    rintro (h | ⟨_, h⟩)
    · exact absurd h (by decide)
    · exact absurd h (by decide))]
  have hm : (BitVec.ofNat 32 p.val).msb = false := by
    rw [BitVec.msb_eq_decide, BitVec.toNat_ofNat]
    exact decide_eq_false (by omega)
  have h2 : (256#32).msb = false := by decide
  apply BitVec.eq_of_toNat_eq
  rw [BitVec.srem_eq, hm, h2]
  simp only [BitVec.umod_eq, BitVec.toNat_umod, BitVec.toNat_ofNat]
  rw [Nat.mod_eq_of_lt (show p.val < 2 ^ 32 by omega), Nat.mod_eq_of_lt (show 256 < 2 ^ 32 by norm_num),
    Nat.mod_eq_of_lt (show p.val % 256 < 2 ^ 32 by omega)]

/-- A sum of words that are each no or one is the word of how many are one. -/
theorem count_word (e : Fin 10 → Bool) (t : Finset (Fin 10)) :
    t.fold IntOp.addi (0#32) (fun x => BitVec.setWidth 32 (BitVec.ofBool (e x)))
      = BitVec.ofNat 32 (∑ x ∈ t, if e x then 1 else 0) := by
  induction t using Finset.induction_on with
  | empty => rfl
  | insert x t hx ih =>
    rw [Finset.fold_insert hx, Finset.sum_insert hx, ih]
    show _ + _ = _
    rw [BitVec.ofNat_add]
    congr 1
    cases e x <;> rfl

/-- A count's word that is at most three counts at most three. -/
theorem small_word (N : ℕ) (h10 : N ≤ 10) (h : IntOp.cmpi CmpIPredicate.sle (BitVec.ofNat 32 N) 3#32 = 1#1) : N ≤ 3 := by
  by_contra hn
  have h : BitVec.ofBool (BitVec.sle _ _) = 1#1 := h
  have ht : (BitVec.ofNat 32 N).toInt = N := by
    rw [BitVec.toInt_ofNat']
    simp only [Int.bmod]
    omega
  have h3 : (3#32).toInt = 3 := by decide
  rw [BitVec.sle_eq_decide, ht, h3, decide_eq_false (by omega)] at h
  exact absurd h (by decide)

/-- The bit of row `i` compares its first hit with `i`. -/
theorem selfBits_at (t : IVec S8192x11 32) (i : Fin 8192) :
    selfBits t (ix2 i (0 : Fin 1)) = IntOp.cmpi CmpIPredicate.eq (t (ix2 i (0 : Fin 11))) (BitVec.ofNat 32 i.val) := by
  pointwise [selfBits]

/-- The bit at place `a` of row `i` says that the next value is less. -/
theorem tieBits_at (v : FVec Ideal S8192x11 .f32) (i : Fin 8192) (a : Fin 9) :
    tieBits v (ix2 i a) = BitVec.ofBool (decide (v (ix2 i ⟨1 + a.val, by omega⟩) < v (ix2 i ⟨a.val, by omega⟩))) := by
  pointwise [tieBits]

/-- The class of a hit is its column's remainder by 256. -/
theorem classes_at (t : IVec S8192x11 32) (i : Fin 8192) (a : Fin 10) :
    classes t (ix2 i a) = IntOp.remsi ArithUnit.host (t (ix2 i ⟨a.val, by omega⟩)) 256#32 := by
  pointwise [classes]

/-- The bit at place `a` of row `i` says that at most three of the ten hits share that hit's class. -/
theorem spreadBits_at (c : IVec S8192x10 32) (i : Fin 8192) (a : Fin 10) :
    spreadBits c (ix2 i a) = IntOp.cmpi CmpIPredicate.sle
      (Finset.univ.fold IntOp.addi (0#32)
        (fun x : Fin 10 => BitVec.setWidth 32 (IntOp.cmpi CmpIPredicate.eq (c (ix2 i a)) (c (ix2 i x))))) 3#32 := by
  pointwise [spreadBits]

variable (s : FVec Ideal SqS .f32) (i : Fin 8192)

/-- A row's values. -/
abbrev row : Fin 8192 → EReal := fun j => s (ix2 i j)

/-- Each row's greatest value stands in the row's own column. -/
theorem self_of (h : selfBits (Cert.ReferenceIdeal.Value.refTop s).2 = fun _ => 1#1) : order (row s i) ⟨0, by norm_num⟩ = i := by
  have h := congrFun h (ix2 i (0 : Fin 1))
  rw [selfBits_at] at h
  have h := of_eq _ _ h
  have e := topK_col s Cert.ReferenceIdeal.Gen.sliceFits_S8192x8192_S8192x11 i 0
  have h := congrArg BitVec.toNat (e.symm.trans h)
  rw [BitVec.toNat_ofNat, BitVec.toNat_ofNat] at h
  have h1 := i.isLt
  have h2 := (order (row s i) ⟨0, by norm_num⟩).isLt
  apply Fin.ext
  have h : (order (row s i) ⟨0, by norm_num⟩).val % 2 ^ 32 = i.val % 2 ^ 32 := h
  omega

/-- Each of the ten greatest exceeds the next. -/
theorem strict_of (h : tieBits (Cert.ReferenceIdeal.Value.refTop s).1 = fun _ => 1#1) (a b : Fin 8192) (hb : b.val < 10)
    (hab : b.val = a.val + 1) : row s i (order (row s i) b) < row s i (order (row s i) a) := by
  have h := congrFun h (ix2 i (⟨a.val, by omega⟩ : Fin 9))
  rw [tieBits_at] at h
  have e1 := topK_val s Cert.ReferenceIdeal.Gen.sliceFits_S8192x8192_S8192x11 i ⟨1 + a.val, by omega⟩
  have e2 := topK_val s Cert.ReferenceIdeal.Gen.sliceFits_S8192x8192_S8192x11 i ⟨a.val, by omega⟩
  by_contra hn
  rw [decide_eq_false] at h
  · exact absurd h (by decide)
  · intro hlt
    refine hn ?_
    have hlt := lt_of_eq_of_lt e1.symm (lt_of_lt_of_eq hlt e2)
    have eb : b = ⟨1 + a.val, by omega⟩ := Fin.ext (by show b.val = 1 + a.val; omega)
    rw [eb]
    exact hlt

/-- No four of the ten greatest stand in one class. -/
theorem spread_of (h : spreadBits (classes (Cert.ReferenceIdeal.Value.refTop s).2) = fun _ => 1#1) (a : Fin 8192) (ha : a.val < 10) :
    ¬ ∃ b1 b2 b3 : Fin 8192, b1 < b2 ∧ b2 < b3 ∧ b3 < a ∧ (order (row s i) b1).val % 256 = (order (row s i) a).val % 256 ∧
      (order (row s i) b2).val % 256 = (order (row s i) a).val % 256 ∧
      (order (row s i) b3).val % 256 = (order (row s i) a).val % 256 := by
  rintro ⟨b1, b2, b3, h12, h23, h3a, e1, e2, e3⟩
  have h12 : b1.val < b2.val := h12
  have h23 : b2.val < b3.val := h23
  have h3a : b3.val < a.val := h3a
  have h := congrFun h (ix2 i (⟨a.val, ha⟩ : Fin 10))
  have hc : ∀ (x : Fin 10), classes (Cert.ReferenceIdeal.Value.refTop s).2 (ix2 i x)
      = BitVec.ofNat 32 ((order (row s i) ⟨x.val, by omega⟩).val % 256) := fun x => by
    rw [classes_at]
    exact (congrArg (fun u => IntOp.remsi ArithUnit.host u 256#32)
      (topK_col s Cert.ReferenceIdeal.Gen.sliceFits_S8192x8192_S8192x11 i ⟨x.val, by omega⟩)).trans (rem_word _)
  rw [spreadBits_at] at h
  have hw := count_word (fun x => classes (Cert.ReferenceIdeal.Value.refTop s).2 (ix2 i (⟨a.val, ha⟩ : Fin 10))
    == classes (Cert.ReferenceIdeal.Value.refTop s).2 (ix2 i x)) Finset.univ
  obtain ⟨N, hN⟩ : ∃ N, N = ∑ x : Fin 10, (if (classes (Cert.ReferenceIdeal.Value.refTop s).2 (ix2 i (⟨a.val, ha⟩ : Fin 10))
    == classes (Cert.ReferenceIdeal.Value.refTop s).2 (ix2 i x)) = true then 1 else 0) := ⟨_, rfl⟩
  rw [← hN] at hw
  have h : IntOp.cmpi CmpIPredicate.sle (BitVec.ofNat 32 N) 3#32 = 1#1 := (congrArg (fun u => IntOp.cmpi CmpIPredicate.sle u 3#32) hw).symm.trans h
  have h10 : N ≤ 10 := by
    rw [hN]
    refine (Finset.sum_le_sum (g := fun _ : Fin 10 => 1) fun x _ => ?_).trans (by simp)
    split <;> omega
  have h3 := small_word N h10 h
  have h4 : ({⟨b1.val, by omega⟩, ⟨b2.val, by omega⟩, ⟨b3.val, by omega⟩, ⟨a.val, ha⟩} : Finset (Fin 10)).card = 4 := by
    rw [Finset.card_insert_of_notMem, Finset.card_insert_of_notMem, Finset.card_insert_of_notMem, Finset.card_singleton]
    all_goals
      simp only [Finset.mem_insert, Finset.mem_singleton, Fin.mk.injEq]
      omega
  have h5 : ({⟨b1.val, by omega⟩, ⟨b2.val, by omega⟩, ⟨b3.val, by omega⟩, ⟨a.val, ha⟩} : Finset (Fin 10)).card ≤ N := by
    rw [Finset.card_eq_sum_ones, hN]
    refine (Finset.sum_le_sum fun x hx => ?_).trans (Finset.sum_le_sum_of_subset (Finset.subset_univ _))
    have hx' : (order (row s i) ⟨x.val, by omega⟩).val % 256 = (order (row s i) a).val % 256 := by
      simp only [Finset.mem_insert, Finset.mem_singleton] at hx
      rcases hx with rfl | rfl | rfl | rfl
      · exact e1
      · exact e2
      · exact e3
      · rfl
    rw [hc, hc]
    rw [if_pos (by rw [beq_iff_eq, hx'])]
  omega

end Cert.Pre_shortlist_is_exact

end
-- ==== Proof.Equation.lean ====
/- The equation: under the precondition the kernel's distances are the reference's. -/
module

public import proofs.«01_k».proof.Proof.Final
public import proofs.«01_k».proof.Proof.Norm
public import proofs.«01_k».proof.Proof.Pre
public import proofs.«01_k».proof.Proof.Value

@[expose] public section

set_option maxRecDepth 16384

noncomputable section

namespace Cert.KernelIdeal.Value

open Cert.KernelIdeal Cert.KernelIdeal.Gen Cert.Shortlist Idealize.ShloMosaic Idealize.ShloMosaic.TcCoe Idealize.SL.Sem
open Cert.ReferenceIdeal.Value (refNorm refSim refTop refNbr refWrap refRows refFin refDist refRes)
open Cert.Pre_shortlist_is_exact (row)

/-- Over real rows: the ten products summed, less the first, is the product with the other nine rows summed. -/
theorem nine_sum (N : Fin 8192 → Fin 64 → ℝ) (i : Fin 8192) (c : ℕ → Fin 8192) (h0 : c 0 = i) :
    (∑ a ∈ Finset.range 10, ∑ k, N i k * N (c a) k) - ∑ k, N i k * N i k
      = ∑ k, N i k * ∑ a : Fin 9, N (c (1 + a.val)) k := by
  rw [Finset.sum_range_succ' _ 9, h0, add_sub_cancel_right]
  simp only [Finset.mul_sum]
  rw [Finset.sum_comm]
  refine Finset.sum_congr rfl fun k _ => ?_
  rw [← Fin.sum_univ_eq_sum_range (fun a => N i k * N (c (a + 1)) k) 9]
  exact Finset.sum_congr rfl fun a _ => by rw [Nat.add_comm]

variable (n : FVec Ideal S8192x64 .f32)

/-- A block's row's similarities are the reference's. -/
theorem simRow_eq (b : Fin 32) (r : Fin 256) (i : Fin 8192) (hi : i.val = b.val * 256 + r.val) :
    simRow (rowBlk n b) n r = row (refSim n) i := by
  have e : i = ⟨b.val * 256 + r.val, by omega⟩ := Fin.ext hi
  funext j
  refine Eq.trans ?_ (Cert.ReferenceIdeal.Value.refSim_at n i j).symm
  exact congrArg (fun u : Fin 8192 => ∑ k : Fin 64, n (ix2 u k) * n (ix2 j k)) e.symm

/-- The reference's final value of a row over its neighbours' columns in descending order. -/
theorem refFin_eq (i : Fin 8192) :
    refFin n (refRows n (refWrap (refNbr (refTop (refSim n)).2))) (ix1 i)
      = Ideal.div (∑ k : Fin 64, n (ix2 i k) * ∑ a : Fin 9, n (ix2 (order (row (refSim n) i) ⟨1 + a.val, by omega⟩) k))
          (Ideal.ofBits FTy.f32 0x41200000#32) := by
  rw [Cert.ReferenceIdeal.Value.refFin_at]
  refine congrArg (fun u => Ideal.div u (Ideal.ofBits FTy.f32 0x41200000#32)) ?_
  refine Finset.sum_congr rfl fun k _ => congrArg (n (ix2 i k) * ·) (Finset.sum_congr rfl fun a _ => ?_)
  refine Cert.ReferenceIdeal.Value.refRows_at n _ i a k _ fun z => Cert.ReferenceIdeal.Value.refWrap_at _ i a _ ?_ z
  rw [Cert.ReferenceIdeal.Value.refNbr_at]
  exact topK_col (refSim n) Cert.ReferenceIdeal.Gen.sliceFits_S8192x8192_S8192x11 i ⟨1 + a.val, by omega⟩

/-- The kernel's final value of a row is the reference's, when the row's shortlist is exact. -/
theorem final_eq (N : Fin 8192 → Fin 64 → ℝ) (hN : ∀ i k, n (ix2 i k) = (N i k : EReal)) (i : Fin 8192)
    (hself : order (row (refSim n) i) ⟨0, by norm_num⟩ = i)
    (hnth : ∀ a (ha : a < 10), nth (cand (row (refSim n) i)) a = row (refSim n) i (order (row (refSim n) i) ⟨a, by omega⟩))
    (j : S1x8192.Idx) (hj : (j 1 : ℕ) = i.val) :
    finalArr n j = refFin n (refRows n (refWrap (refNbr (refTop (refSim n)).2))) (ix1 i) := by
  have hi := i.isLt
  have hb : i.val = (⟨i.val / 256, by omega⟩ : Fin 32).val * 256 + (⟨i.val % 256, Nat.mod_lt _ (by norm_num)⟩ : Fin 256).val := by
    show i.val = i.val / 256 * 256 + i.val % 256
    omega
  rw [finalArr_at n ⟨i.val / 256, by omega⟩ ⟨i.val % 256, Nat.mod_lt _ (by norm_num)⟩ j (hj.trans hb), finalBlk_at,
    simRow_eq n _ _ i hb, refFin_eq]
  refine congrArg (fun u => Ideal.div u (Ideal.ofBits FTy.f32 0x41200000#32)) ?_
  set c : ℕ → Fin 8192 := fun a => if ha : a < 8192 then order (row (refSim n) i) ⟨a, ha⟩ else i with hc
  have hca : ∀ a (ha : a < 8192), c a = order (row (refSim n) i) ⟨a, ha⟩ := fun a ha => dif_pos ha
  have hs : ∀ j, row (refSim n) i j = ((∑ k, N i k * N j k : ℝ) : EReal) := fun j => by
    show refSim n (ix2 i j) = _
    rw [Cert.ReferenceIdeal.Value.refSim_at, coe_sum]
    exact Finset.sum_congr rfl fun k _ => by rw [hN, hN, EReal.coe_mul]
  have h1 : ∑ a ∈ Finset.range 10, nth (cand (row (refSim n) i)) a
      = ((∑ a ∈ Finset.range 10, ∑ k, N i k * N (c a) k : ℝ) : EReal) := by
    rw [coe_sum]
    refine Finset.sum_congr rfl fun a ha => ?_
    have ha := Finset.mem_range.mp ha
    rw [hnth a ha, hs, hca a (by omega)]
  have h2 : ∑ k : Fin 64, rowBlk n ⟨i.val / 256, by omega⟩ (ix2 ⟨i.val % 256, Nat.mod_lt _ (by norm_num)⟩ k)
      * rowBlk n ⟨i.val / 256, by omega⟩ (ix2 ⟨i.val % 256, Nat.mod_lt _ (by norm_num)⟩ k) = ((∑ k, N i k * N i k : ℝ) : EReal) := by
    rw [coe_sum]
    refine Finset.sum_congr rfl fun k _ => ?_
    have e : rowBlk n ⟨i.val / 256, by omega⟩ (ix2 ⟨i.val % 256, Nat.mod_lt _ (by norm_num)⟩ k) = (N i k : EReal) :=
      Eq.trans (congrArg (fun u : Fin 8192 => n (ix2 u k)) (Fin.ext hb.symm)) (hN i k)
    rw [e, EReal.coe_mul]
  have h3 : ∑ k : Fin 64, n (ix2 i k) * ∑ a : Fin 9, n (ix2 (order (row (refSim n) i) ⟨1 + a.val, by omega⟩) k)
      = ((∑ k, N i k * ∑ a : Fin 9, N (c (1 + a.val)) k : ℝ) : EReal) := by
    rw [coe_sum]
    refine Finset.sum_congr rfl fun k _ => ?_
    rw [EReal.coe_mul, coe_sum, hN]
    refine congrArg ((N i k : EReal) * ·) ?_
    exact Finset.sum_congr rfl fun a _ => by rw [hN, hca (1 + a.val) (by omega)]
  rw [h1, h2, h3, ← EReal.coe_sub, nine_sum N i c ((hca 0 (by norm_num)).trans hself)]

/-- Under the precondition the kernel's result is the reference's. -/
theorem equation [hf : Cert.Pre_shortlist_is_exact.Facts] (x : FVec Ideal S8192x64 .f32) (w : FVec Ideal S64x64 .f32)
    (h1 : (Cert.Pre_shortlist_is_exact.fn (F := Ideal) x w).1 = fun _ => 1#1)
    (h2 : (Cert.Pre_shortlist_is_exact.fn (F := Ideal) x w).2.1 = fun _ => 1#1)
    (h3 : (Cert.Pre_shortlist_is_exact.fn (F := Ideal) x w).2.2 = fun _ => 1#1) :
    refRes (refNorm x w) = kernelRes x w := by
  rw [Cert.Pre_shortlist_is_exact.fn_eq] at h1 h2 h3
  dsimp only at h1 h2 h3
  unfold kernelRes
  rw [norm_eq]
  obtain ⟨N, hN⟩ := norm_real x w
  generalize refNorm x w = n at h1 h2 h3 hN ⊢
  have hfin : ∀ (i : Fin 8192) (j : S1x8192.Idx) (hj : (j 1 : ℕ) = i.val),
      finalArr n j = refFin n (refRows n (refWrap (refNbr (refTop (refSim n)).2))) (ix1 i) := fun i j hj =>
    final_eq n N hN i (Cert.Pre_shortlist_is_exact.self_of (refSim n) i h1)
      (fun a ha => nth_cand _ _ (order_surjective _) (order_antitone _)
        (fun p q hq hpq => Cert.Pre_shortlist_is_exact.strict_of (refSim n) i h2 p q hq hpq)
        (fun p hp => exists_cand _ _ (order_surjective _) (order_antitone _) p hp
          (Cert.Pre_shortlist_is_exact.spread_of (refSim n) i h3 p hp)) a ha) j hj
  have hd : ∀ p q : Fin 8192, refRes n (ix2 p q) = distArr n (finalArr n) (ix2 p q) := fun p q => by
    have hp := p.isLt
    have hb : p.val = (⟨p.val / 256, by omega⟩ : Fin 32).val * 256 + (⟨p.val % 256, Nat.mod_lt _ (by norm_num)⟩ : Fin 256).val := by
      show p.val = p.val / 256 * 256 + p.val % 256
      omega
    rw [distArr_at n (finalArr n) ⟨p.val / 256, by omega⟩ ⟨p.val % 256, Nat.mod_lt _ (by norm_num)⟩ q (ix2 p q) hb rfl,
      dist_at, simRow_eq n _ _ p hb]
    unfold refRes
    rw [Cert.ReferenceIdeal.Value.refDist_at]
    refine Eq.trans ?_ (add_assoc (G := EReal) _ _ _).symm
    refine congrArg (fun u : EReal => 1 + refSim n (ix2 p q) * Ideal.ofBits FTy.f32 0xC0000000#32 + u) ?_
    refine congrArg₂ (fun u v : EReal => u + v) ?_ ?_
    · exact (hfin p (ix2 (0 : Fin 1) ⟨p.val / 256 * 256 + p.val % 256, by omega⟩) hb.symm).symm
    · exact (hfin q (ix2 (0 : Fin 1) q) rfl).symm
  funext j
  idx_vars j
  exact hd _ _

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_shortlist_is_exact
public import proofs.«01_k».proof.Proof.Value
public import proofs.«01_k».proof.Proof.Equation
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Idealize.ShloMosaic.TcCoe

/-- The reference runs, leaves its arguments unchanged and has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c).2.1, (h c).2.2⟩, sem_eq_zero_of_no_sems (by decide) r.2⟩)
    (Cert.ReferenceIdeal.Value.run m g)

/-- Under the precondition, kernel and reference end with equal results. -/
theorem algebraic : Cert.algebraic_KernelIdeal_ReferenceIdeal_pre_shortlist_is_exact
    (hKernelIdeal := Cert.KernelIdeal.Gen.facts) (hReferenceIdeal := Cert.ReferenceIdeal.Gen.facts)
    (hPre_shortlist_is_exact := Cert.Pre_shortlist_is_exact.Gen.facts) := by
  intro m g m' g' hpre hagree
  refine ⟨fun c => Cert.KernelIdeal.Value.kernelRes (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.Value.run m g, ?_⟩
  refine (θ_run Cert.ReferenceIdeal.defs _ _).mono (fun r h c => ⟨(h c).1.trans ?_, (h c).2⟩)
    (Cert.ReferenceIdeal.Value.run m' g')
  obtain ⟨h1, h2, h3⟩ := hpre c
  obtain ⟨e0, e1⟩ := hagree c
  refine (Cert.ReferenceIdeal.Value.res_eq m' c).trans ?_
  rw [e0, e1]
  exact Cert.KernelIdeal.Value.equation (hf := Cert.Pre_shortlist_is_exact.Gen.facts) _ _ h1 h2 h3

/-- Everything claimed, with the witnesses of the programs' stated facts. -/
theorem claim : Cert.Claim :=
  ⟨Cert.Kernel.Gen.facts, Cert.KernelIdeal.Gen.facts, Cert.ReferenceIdeal.Gen.facts, Cert.Pre_shortlist_is_exact.Gen.facts,
    fun m ρ _ => Cert.Kernel.Gen.frame m ρ, fun m ρ _ => Cert.KernelIdeal.Gen.frame m ρ, fun m ρ _ => Cert.KernelIdeal.Gen.frame m ρ,
    fun m g _ => frame_reference m g, fun m g _ => frame_reference m g, trivial, algebraic⟩

end Cert.Proof

end
